-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "bn_scale" .f32 0x3F7FFFAC#32 (((Real.sqrt (2097173 / 2097152))⁻¹ : ℝ) : EReal)
  ∧ IdealRules.named_const.Statement Cert.KernelIdeal.κ "step" .f32 0x3D888889#32 ((1 / 15 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S192x40 : Shape := ⟨2, ![192, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  bcast_S_S10000x10000 : S_.BroadcastsInDim S10000x10000 (![] : Fin 0 → Fin S10000x10000.rank)
  bcast_S_S32 : S_.BroadcastsInDim S32 (![] : Fin 0 → Fin S32.rank)
  bcast_S_S128x32 : S_.BroadcastsInDim S128x32 (![] : Fin 0 → Fin S128x32.rank)
  bcast_S_S32x32 : S_.BroadcastsInDim S32x32 (![] : Fin 0 → Fin S32x32.rank)

variable [Facts]

def fn_part1 {F : FTy → Type} [FloatOps F] (main_arg9 : FVec F S32 .f32) (main_arg10 : FVec F S32 .f32) (main_arg11 : FVec F S32 .f32) (main_arg13 : FVec F S32x32 .f32) (main_arg14 : FVec F S32 .f32) (main_arg15 : FVec F S32 .f32) (main_v2 : IVec S10000x128 1) (main_v5 : IVec S10000x10000 1) (main_v8 : IVec S32 1) (main_v11 : IVec S32 1) (main_v14 : IVec S128x32 1) (main_v17 : IVec S128x32 1) : IVec S10000x128 1 × IVec S10000x10000 1 × IVec S32 1 × IVec S32 1 × IVec S128x32 1 × IVec S128x32 1 × IVec S32 1 × IVec S32 1 × IVec S32 1 × IVec S32x32 1 × IVec S32 1 × IVec S32 1 :=
  let main_v18 : FVec F S32 .f32 := Host.absf main_arg9
  let main_cst_5 : FVec F S_ .f32 := constant S_ .f32 0x7F800000#32
  let main_v19 : FVec F S32 .f32 := broadcastInDim S32 ![] bcast_S_S32 main_cst_5
  let main_v20 : IVec S32 1 := cmpf .olt main_v18 main_v19
  let main_v21 : FVec F S32 .f32 := Host.absf main_arg10
  let main_cst_6 : FVec F S_ .f32 := constant S_ .f32 0x7F800000#32
  let main_v22 : FVec F S32 .f32 := broadcastInDim S32 ![] bcast_S_S32 main_cst_6
  let main_v23 : IVec S32 1 := cmpf .olt main_v21 main_v22
  let main_v24 : FVec F S32 .f32 := Host.absf main_arg11
  let main_cst_7 : FVec F S_ .f32 := constant S_ .f32 0x7F800000#32
  let main_v25 : FVec F S32 .f32 := broadcastInDim S32 ![] bcast_S_S32 main_cst_7
  let main_v26 : IVec S32 1 := cmpf .olt main_v24 main_v25
  let main_v27 : FVec F S32x32 .f32 := Host.absf main_arg13
  let main_cst_8 : FVec F S_ .f32 := constant S_ .f32 0x7F800000#32
  let main_v28 : FVec F S32x32 .f32 := broadcastInDim S32x32 ![] bcast_S_S32x32 main_cst_8
  let main_v29 : IVec S32x32 1 := cmpf .olt main_v27 main_v28
  let main_v30 : FVec F S32 .f32 := Host.absf main_arg14
  let main_cst_9 : FVec F S_ .f32 := constant S_ .f32 0x7F800000#32
  let main_v31 : FVec F S32 .f32 := broadcastInDim S32 ![] bcast_S_S32 main_cst_9
  let main_v32 : IVec S32 1 := cmpf .olt main_v30 main_v31
  let main_v33 : FVec F S32 .f32 := Host.absf main_arg15
  let main_cst_10 : FVec F S_ .f32 := constant S_ .f32 0x7F800000#32
  let main_v34 : FVec F S32 .f32 := broadcastInDim S32 ![] bcast_S_S32 main_cst_10
  let main_v35 : IVec S32 1 := cmpf .olt main_v33 main_v34
  (main_v2, main_v5, main_v8, main_v11, main_v14, main_v17, main_v20, main_v23, main_v26, main_v29, main_v32, main_v35)

def fn {F : FTy → Type} [FloatOps F] (main_arg0 : FVec F S10000x128 .f32) (main_arg1 : FVec F S10000x10000 .f32) (main_arg2 : FVec F S128x32 .f32) (main_arg3 : FVec F S128x32 .f32) (main_arg4 : FVec F S32 .f32) (main_arg5 : FVec F S32 .f32) (main_arg6 : FVec F S32 .f32) (main_arg7 : FVec F S128x32 .f32) (main_arg8 : FVec F S128x32 .f32) (main_arg9 : FVec F S32 .f32) (main_arg10 : FVec F S32 .f32) (main_arg11 : FVec F S32 .f32) (main_arg12 : FVec F S32x32 .f32) (main_arg13 : FVec F S32x32 .f32) (main_arg14 : FVec F S32 .f32) (main_arg15 : FVec F S32 .f32) (main_arg16 : FVec F S32 .f32) (main_arg17 : FVec F S192x40 .f32) (main_arg18 : FVec F S40 .f32) : IVec S10000x128 1 × IVec S10000x10000 1 × IVec S32 1 × IVec S32 1 × IVec S128x32 1 × IVec S128x32 1 × IVec S32 1 × IVec S32 1 × IVec S32 1 × IVec S32x32 1 × IVec S32 1 × IVec S32 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x10000 .f32 := Host.absf main_arg1
  let main_cst_0 : FVec F S_ .f32 := constant S_ .f32 0x7F800000#32
  let main_v4 : FVec F S10000x10000 .f32 := broadcastInDim S10000x10000 ![] bcast_S_S10000x10000 main_cst_0
  let main_v5 : IVec S10000x10000 1 := cmpf .olt main_v3 main_v4
  let main_v6 : FVec F S32 .f32 := Host.absf main_arg4
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S128x32 .f32 := Host.absf main_arg7
  let main_cst_3 : FVec F S_ .f32 := constant S_ .f32 0x7F800000#32
  let main_v13 : FVec F S128x32 .f32 := broadcastInDim S128x32 ![] bcast_S_S128x32 main_cst_3
  let main_v14 : IVec S128x32 1 := cmpf .olt main_v12 main_v13
  let main_v15 : FVec F S128x32 .f32 := Host.absf main_arg8
  let main_cst_4 : FVec F S_ .f32 := constant S_ .f32 0x7F800000#32
  let main_v16 : FVec F S128x32 .f32 := broadcastInDim S128x32 ![] bcast_S_S128x32 main_cst_4
  let main_v17 : IVec S128x32 1 := cmpf .olt main_v15 main_v16
  fn_part1 (F := F) main_arg9 main_arg10 main_arg11 main_arg13 main_arg14 main_arg15 main_v2 main_v5 main_v8 main_v11 main_v14 main_v17
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S192x40 : Shape := ⟨2, ![192, 40]⟩
abbrev S40 : Shape := ⟨1, ![40]⟩
abbrev S1x32 : Shape := ⟨2, ![1, 32]⟩
abbrev S128x64 : Shape := ⟨2, ![128, 64]⟩
abbrev S128x40 : Shape := ⟨2, ![128, 40]⟩
abbrev S32x40 : Shape := ⟨2, ![32, 40]⟩
abbrev S1x40 : Shape := ⟨2, ![1, 40]⟩
abbrev S25x400x10000 : Shape := ⟨3, ![25, 400, 10000]⟩
abbrev S10000x32 : Shape := ⟨2, ![10000, 32]⟩
abbrev S10000x40 : Shape := ⟨2, ![10000, 40]⟩
abbrev S400x10000 : Shape := ⟨2, ![400, 10000]⟩
abbrev S1x400x10000 : Shape := ⟨3, ![1, 400, 10000]⟩
abbrev S400x32 : Shape := ⟨2, ![400, 32]⟩
abbrev S400x40 : Shape := ⟨2, ![400, 40]⟩
abbrev S10000x64 : Shape := ⟨2, ![10000, 64]⟩
abbrev S400x128 : Shape := ⟨2, ![400, 128]⟩
abbrev S400x64 : Shape := ⟨2, ![400, 64]⟩
abbrev S400x5120 : Shape := ⟨2, ![400, 5120]⟩
abbrev S5120x32 : Shape := ⟨2, ![5120, 32]⟩
abbrev S400x4880 : Shape := ⟨2, ![400, 4880]⟩
abbrev S4880x32 : Shape := ⟨2, ![4880, 32]⟩

abbrev nBuf : Space → Nat
  | .hbm => 39
  | .vmem => 47
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S128x32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S128x32, .f32⟩
  | .hbm, ⟨8, _⟩ => ⟨S128x32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32x32, .f32⟩
  | .hbm, ⟨13, _⟩ => ⟨S32x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S192x40, .f32⟩
  | .hbm, ⟨18, _⟩ => ⟨S40, .f32⟩
  | .hbm, ⟨19, _⟩ => ⟨S1x32, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S1x32, .f32⟩
  | .hbm, ⟨28, _⟩ => ⟨S128x64, .f32⟩
  | .hbm, ⟨29, _⟩ => ⟨S128x40, .f32⟩
  | .hbm, ⟨30, _⟩ => ⟨S32x40, .f32⟩
  | .hbm, ⟨31, _⟩ => ⟨S32x40, .f32⟩
  | .hbm, ⟨32, _⟩ => ⟨S1x40, .f32⟩
  | .hbm, ⟨33, _⟩ => ⟨S25x400x10000, .i4⟩
  | .hbm, ⟨34, _⟩ => ⟨S10000x32, .f32⟩
  | .hbm, ⟨35, _⟩ => ⟨S10000x32, .f32⟩
  | .hbm, ⟨36, _⟩ => ⟨S10000x32, .f32⟩
  | .hbm, ⟨37, _⟩ => ⟨S10000x40, .f32⟩
  | .hbm, ⟨38, _⟩ => ⟨S10000x40, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x64, .f32⟩
  | .local _ .vmem, ⟨4, _⟩ => ⟨S128x32, .f32⟩
  | .local _ .vmem, ⟨5, _⟩ => ⟨S128x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S128x40, .f32⟩
  | .local _ .vmem, ⟨13, _⟩ => ⟨S32x40, .f32⟩
  | .local _ .vmem, ⟨14, _⟩ => ⟨S1x40, .f32⟩
  | .local _ .vmem, ⟨15, _⟩ => ⟨S32x32, .f32⟩
  | .local _ .vmem, ⟨16, _⟩ => ⟨S1x400x10000, .i4⟩
  | .local _ .vmem, ⟨17, _⟩ => ⟨S1x400x10000, .i4⟩
  | .local _ .vmem, ⟨18, _⟩ => ⟨S400x32, .f32⟩
  | .local _ .vmem, ⟨19, _⟩ => ⟨S400x32, .f32⟩
  | .local _ .vmem, ⟨20, _⟩ => ⟨S400x32, .f32⟩
  | .local _ .vmem, ⟨21, _⟩ => ⟨S400x32, .f32⟩
  | .local _ .vmem, ⟨22, _⟩ => ⟨S400x32, .f32⟩
  | .local _ .vmem, ⟨23, _⟩ => ⟨S400x32, .f32⟩
  | .local _ .vmem, ⟨24, _⟩ => ⟨S400x40, .f32⟩
  | .local _ .vmem, ⟨25, _⟩ => ⟨S400x40, .f32⟩
  | .local _ .vmem, ⟨26, _⟩ => ⟨S10000x64, .f32⟩
  | .local _ .vmem, ⟨27, _⟩ => ⟨S10000x32, .bf16⟩
  | .local _ .vmem, ⟨28, _⟩ => ⟨S1x400x10000, .i4⟩
  | .local _ .vmem, ⟨29, _⟩ => ⟨S1x400x10000, .i4⟩
  | .local _ .vmem, ⟨30, _⟩ => ⟨S10000x32, .f32⟩
  | .local _ .vmem, ⟨31, _⟩ => ⟨S400x32, .f32⟩
  | .local _ .vmem, ⟨32, _⟩ => ⟨S400x32, .f32⟩
  | .local _ .vmem, ⟨33, _⟩ => ⟨S400x32, .f32⟩
  | .local _ .vmem, ⟨34, _⟩ => ⟨S400x32, .f32⟩
  | .local _ .vmem, ⟨35, _⟩ => ⟨S400x40, .f32⟩
  | .local _ .vmem, ⟨36, _⟩ => ⟨S400x40, .f32⟩
  | .local _ .vmem, ⟨37, _⟩ => ⟨S32x32, .f32⟩
  | .local _ .vmem, ⟨38, _⟩ => ⟨S1x32, .f32⟩
  | .local _ .vmem, ⟨39, _⟩ => ⟨S1x32, .f32⟩
  | .local _ .vmem, ⟨40, _⟩ => ⟨S1x32, .f32⟩
  | .local _ .vmem, ⟨41, _⟩ => ⟨S32x40, .f32⟩
  | .local _ .vmem, ⟨42, _⟩ => ⟨S400x40, .f32⟩
  | .local _ .vmem, ⟨43, _⟩ => ⟨S400x40, .f32⟩
  | .local _ .vmem, ⟨44, _⟩ => ⟨S10000x32, .bf16⟩
  | .local _ .vmem, ⟨45, _⟩ => ⟨S1x32, .f32⟩
  | .local _ .vmem, ⟨46, _⟩ => ⟨S400x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_v14_2 : Ref sig .tc := ⟨.hbm, 35, rfl⟩
abbrev main_v14_3 : Ref sig .tc := ⟨.hbm, 36, rfl⟩
abbrev main_v14_4 : Ref sig .tc := ⟨.hbm, 37, rfl⟩
abbrev main_v15 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_scratch0 : Ref sig .tc := ⟨.vmem, 26, rfl⟩
abbrev cc0_scratch1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg2_0 : Ref sig .tc := ⟨.vmem, 31, rfl⟩
abbrev cc1_stg2_1 : Ref sig .tc := ⟨.vmem, 32, rfl⟩
abbrev cc1_stg3_0 : Ref sig .tc := ⟨.vmem, 33, rfl⟩
abbrev cc1_stg3_1 : Ref sig .tc := ⟨.vmem, 34, rfl⟩
abbrev cc1_stg4_0 : Ref sig .tc := ⟨.vmem, 35, rfl⟩
abbrev cc1_stg4_1 : Ref sig .tc := ⟨.vmem, 36, rfl⟩
abbrev cc1_stg5_0 : Ref sig .tc := ⟨.vmem, 37, rfl⟩
abbrev cc1_stg6_0 : Ref sig .tc := ⟨.vmem, 38, rfl⟩
abbrev cc1_stg7_0 : Ref sig .tc := ⟨.vmem, 39, rfl⟩
abbrev cc1_stg8_0 : Ref sig .tc := ⟨.vmem, 40, rfl⟩
abbrev cc1_stg9_0 : Ref sig .tc := ⟨.vmem, 41, rfl⟩
abbrev cc1_stg10_0 : Ref sig .tc := ⟨.vmem, 42, rfl⟩
abbrev cc1_stg10_1 : Ref sig .tc := ⟨.vmem, 43, rfl⟩
abbrev cc1_scratch0 : Ref sig .tc := ⟨.vmem, 44, rfl⟩
abbrev cc1_scratch1 : Ref sig .tc := ⟨.vmem, 45, rfl⟩
abbrev cc1_scratch2 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc1_sem0_0 : DmaSem sig := 26
abbrev cc1_sem0_1 : DmaSem sig := 27
abbrev cc1_sem1_0 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem4_1 : DmaSem sig := 34
abbrev cc1_sem5_0 : DmaSem sig := 35
abbrev cc1_sem6_0 : DmaSem sig := 36
abbrev cc1_sem7_0 : DmaSem sig := 37
abbrev cc1_sem8_0 : DmaSem sig := 38
abbrev cc1_sem9_0 : DmaSem sig := 39
abbrev cc1_sem10_0 : DmaSem sig := 40
abbrev cc1_sem10_1 : DmaSem sig := 41

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v0 : BitVec 32 := Scalar.muli arg0 c400_i32
  let v12 : Index := Scalar.indexCast v0
  let c0_5 : Index := 0#32
  ![v12.toNat, 0]
def k0_off2 (i : grid0.Coords) : Fin 2 → Nat :=
  let arg0 : BitVec 32 := BitVec.ofNat 32 (i 0).val
  let c400_i32 : BitVec 32 := 400#32
  let v0 : BitVec 32 := Scalar.muli arg0 c400_i32
  let v69 : Index := Scalar.indexCast v0
  let c0_44 : Index := 0#32
  ![v69.toNat, 0]
def k0_cond2 (i : grid0.Coords) : BitVec 1 :=
  let arg0 : BitVec 32 := BitVec.ofNat 32 (i 0).val
  let c13_i32 : BitVec 32 := 13#32
  let v85 : BitVec 1 := Scalar.cmpi .sge arg0 c13_i32
  let v86 : BitVec 32 := Scalar.extui v85
  let c0_i32_55 : BitVec 32 := 0#32
  let v87 : BitVec 1 := Scalar.cmpi .ne v86 c0_i32_55
  v87

def k0_cond3 (i : grid0.Coords) : BitVec 1 :=
  let arg0 : BitVec 32 := BitVec.ofNat 32 (i 0).val
  let c13_i32_56 : BitVec 32 := 13#32
  let v88 : BitVec 1 := Scalar.cmpi .slt arg0 c13_i32_56
  let v89 : BitVec 32 := Scalar.extui v88
  let c0_i32_57 : BitVec 32 := 0#32
  let v90 : BitVec 1 := Scalar.cmpi .ne v89 c0_i32_57
  v90

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x40 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x40 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x400x10000 .i4 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S400x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S400x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S400x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S400x40 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x400x10000 .i4 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x40 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S400x40 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== KernelIdeal.lean ====
variable {F : FTy → Type} [FloatOps F] [Named F]
def κ : String → Option EReal := fun
  | "bn_scale" => some (((Real.sqrt (2097173 / 2097152))⁻¹ : ℝ) : EReal)
  | "step" => some ((1 / 15 : ℝ) : EReal)
  | _ => none
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S192x40 : Shape := ⟨2, ![192, 40]⟩
abbrev S40 : Shape := ⟨1, ![40]⟩
abbrev S_ : Shape := ⟨0, ![]⟩
abbrev S10000x32 : Shape := ⟨2, ![10000, 32]⟩
abbrev S1x32 : Shape := ⟨2, ![1, 32]⟩
abbrev S10000x160 : Shape := ⟨2, ![10000, 160]⟩
abbrev S10000x192 : Shape := ⟨2, ![10000, 192]⟩
abbrev S10000x40 : Shape := ⟨2, ![10000, 40]⟩
abbrev S1x40 : Shape := ⟨2, ![1, 40]⟩

abbrev nBuf : Space → Nat
  | .hbm => 100
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S128x32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S128x32, .f32⟩
  | .hbm, ⟨8, _⟩ => ⟨S128x32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32x32, .f32⟩
  | .hbm, ⟨13, _⟩ => ⟨S32x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S192x40, .f32⟩
  | .hbm, ⟨18, _⟩ => ⟨S40, .f32⟩
  | .hbm, ⟨19, _⟩ => ⟨S_, .f32⟩
  | .hbm, ⟨20, _⟩ => ⟨S10000x10000, .f32⟩
  | .hbm, ⟨21, _⟩ => ⟨S10000x10000, .f32⟩
  | .hbm, ⟨22, _⟩ => ⟨S10000x10000, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S10000x10000, .f32⟩
  | .hbm, ⟨27, _⟩ => ⟨S10000x10000, .f32⟩
  | .hbm, ⟨28, _⟩ => ⟨S_, .f32⟩
  | .hbm, ⟨29, _⟩ => ⟨S10000x10000, .f32⟩
  | .hbm, ⟨30, _⟩ => ⟨S10000x10000, .f32⟩
  | .hbm, ⟨31, _⟩ => ⟨S_, .f32⟩
  | .hbm, ⟨32, _⟩ => ⟨S10000x10000, .f32⟩
  | .hbm, ⟨33, _⟩ => ⟨S10000x10000, .f32⟩
  | .hbm, ⟨34, _⟩ => ⟨S10000x32, .f32⟩
  | .hbm, ⟨35, _⟩ => ⟨S10000x32, .f32⟩
  | .hbm, ⟨36, _⟩ => ⟨S10000x32, .f32⟩
  | .hbm, ⟨37, _⟩ => ⟨S10000x32, .f32⟩
  | .hbm, ⟨38, _⟩ => ⟨S1x32, .f32⟩
  | .hbm, ⟨39, _⟩ => ⟨S10000x32, .f32⟩
  | .hbm, ⟨40, _⟩ => ⟨S10000x32, .f32⟩
  | .hbm, ⟨41, _⟩ => ⟨S_, .f32⟩
  | .hbm, ⟨42, _⟩ => ⟨S_, .f32⟩
  | .hbm, ⟨43, _⟩ => ⟨S10000x32, .f32⟩
  | .hbm, ⟨44, _⟩ => ⟨S10000x32, .f32⟩
  | .hbm, ⟨45, _⟩ => ⟨S1x32, .f32⟩
  | .hbm, ⟨46, _⟩ => ⟨S10000x32, .f32⟩
  | .hbm, ⟨47, _⟩ => ⟨S10000x32, .f32⟩
  | .hbm, ⟨48, _⟩ => ⟨S1x32, .f32⟩
  | .hbm, ⟨49, _⟩ => ⟨S10000x32, .f32⟩
  | .hbm, ⟨50, _⟩ => ⟨S10000x32, .f32⟩
  | .hbm, ⟨51, _⟩ => ⟨S_, .f32⟩
  | .hbm, ⟨52, _⟩ => ⟨S10000x32, .f32⟩
  | .hbm, ⟨53, _⟩ => ⟨S10000x32, .f32⟩
  | .hbm, ⟨54, _⟩ => ⟨S10000x160, .f32⟩
  | .hbm, ⟨55, _⟩ => ⟨S10000x32, .f32⟩
  | .hbm, ⟨56, _⟩ => ⟨S10000x32, .f32⟩
  | .hbm, ⟨57, _⟩ => ⟨S10000x32, .f32⟩
  | .hbm, ⟨58, _⟩ => ⟨S10000x32, .f32⟩
  | .hbm, ⟨59, _⟩ => ⟨S1x32, .f32⟩
  | .hbm, ⟨60, _⟩ => ⟨S10000x32, .f32⟩
  | .hbm, ⟨61, _⟩ => ⟨S10000x32, .f32⟩
  | .hbm, ⟨62, _⟩ => ⟨S_, .f32⟩
  | .hbm, ⟨63, _⟩ => ⟨S_, .f32⟩
  | .hbm, ⟨64, _⟩ => ⟨S10000x32, .f32⟩
  | .hbm, ⟨65, _⟩ => ⟨S10000x32, .f32⟩
  | .hbm, ⟨66, _⟩ => ⟨S1x32, .f32⟩
  | .hbm, ⟨67, _⟩ => ⟨S10000x32, .f32⟩
  | .hbm, ⟨68, _⟩ => ⟨S10000x32, .f32⟩
  | .hbm, ⟨69, _⟩ => ⟨S1x32, .f32⟩
  | .hbm, ⟨70, _⟩ => ⟨S10000x32, .f32⟩
  | .hbm, ⟨71, _⟩ => ⟨S10000x32, .f32⟩
  | .hbm, ⟨72, _⟩ => ⟨S_, .f32⟩
  | .hbm, ⟨73, _⟩ => ⟨S10000x32, .f32⟩
  | .hbm, ⟨74, _⟩ => ⟨S10000x32, .f32⟩
  | .hbm, ⟨75, _⟩ => ⟨S10000x32, .f32⟩
  | .hbm, ⟨76, _⟩ => ⟨S10000x32, .f32⟩
  | .hbm, ⟨77, _⟩ => ⟨S10000x32, .f32⟩
  | .hbm, ⟨78, _⟩ => ⟨S10000x32, .f32⟩
  | .hbm, ⟨79, _⟩ => ⟨S1x32, .f32⟩
  | .hbm, ⟨80, _⟩ => ⟨S10000x32, .f32⟩
  | .hbm, ⟨81, _⟩ => ⟨S10000x32, .f32⟩
  | .hbm, ⟨82, _⟩ => ⟨S_, .f32⟩
  | .hbm, ⟨83, _⟩ => ⟨S_, .f32⟩
  | .hbm, ⟨84, _⟩ => ⟨S10000x32, .f32⟩
  | .hbm, ⟨85, _⟩ => ⟨S10000x32, .f32⟩
  | .hbm, ⟨86, _⟩ => ⟨S1x32, .f32⟩
  | .hbm, ⟨87, _⟩ => ⟨S10000x32, .f32⟩
  | .hbm, ⟨88, _⟩ => ⟨S10000x32, .f32⟩
  | .hbm, ⟨89, _⟩ => ⟨S1x32, .f32⟩
  | .hbm, ⟨90, _⟩ => ⟨S10000x32, .f32⟩
  | .hbm, ⟨91, _⟩ => ⟨S10000x32, .f32⟩
  | .hbm, ⟨92, _⟩ => ⟨S_, .f32⟩
  | .hbm, ⟨93, _⟩ => ⟨S10000x32, .f32⟩
  | .hbm, ⟨94, _⟩ => ⟨S10000x32, .f32⟩
  | .hbm, ⟨95, _⟩ => ⟨S10000x192, .f32⟩
  | .hbm, ⟨96, _⟩ => ⟨S10000x40, .f32⟩
  | .hbm, ⟨97, _⟩ => ⟨S1x40, .f32⟩
  | .hbm, ⟨98, _⟩ => ⟨S10000x40, .f32⟩
  | .hbm, ⟨99, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v3 : Ref sig .tc := ⟨.hbm, 30, rfl⟩
abbrev main_cst_2 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call2_cst : Ref sig .tc := ⟨.hbm, 51, rfl⟩
abbrev main_call2_v0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call3_cst : Ref sig .tc := ⟨.hbm, 72, rfl⟩
abbrev main_call3_v0 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_call4_cst : Ref sig .tc := ⟨.hbm, 92, rfl⟩
abbrev main_call4_v0 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩

abbrev nD : Nat := 1
abbrev τ : Topo := Topo.v7x

variable {F : FTy → Type} [FloatOps F]
-- ==== Proof.Pass1Body.lean ====
/-
  The first pass's body: what one grid point computes, and the triple that says so.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.FrameBody
public import Idealize.ShloMosaic.Lib.Pipeline.Value
public import Idealize.ShloMosaic.Lib.Pipeline.Regions
public import Idealize.ShloMosaic.Lib.Pipeline.ValueKit
public import Idealize.ShloMosaic.Lib.VecWindow

@[expose] public section

set_option maxRecDepth 16384

noncomputable section

namespace Cert.Proof.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## What one point computes -/

/-- The rows of `x` (and of the first factor of the product) a point works on. -/
abbrev rX (i : grid0.Coords) : Rect S10000x128 := Rect.unit (s := S10000x128) (k0_off1 i) S400x128.size (k0_off1_inb i)
/-- The rows of the bf16 scratch a point fills. -/
abbrev rRows (i : grid0.Coords) : Rect S10000x32 := Rect.unit (s := S10000x32) (k0_off2 i) S400x32.size (k0_off2_inb i)
/-- The first 5120 rows of the bf16 scratch: those the partial product reads. -/
abbrev rLow : Rect S10000x32 := Rect.unit (s := S10000x32) ![0, 0] S5120x32.size inb_S10000x32_S5120x32_0_0

/-- The point's rows of the second branch's first activation. -/
def aBlk (i : grid0.Coords) (adj : Vec F S400x10000 .f32) (x : Vec F S10000x128 .f32) (scat : Vec F S10000x64 .f32)
    (S10 : Vec F S128x32 .f32) (b10 g10 be10 : Vec F S1x32 .f32) : Vec F S400x32 .f32 :=
  k0_pay12 (View.ld x (rX i)) (k0_pay7 adj scat) S10 g10 b10 g10 be10

/-- The same rows times `W11`: the second layer's support. -/
def pBlk (i : grid0.Coords) (adj : Vec F S400x10000 .f32) (x : Vec F S10000x128 .f32) (scat : Vec F S10000x64 .f32)
    (S10 : Vec F S128x32 .f32) (b10 g10 be10 : Vec F S1x32 .f32) (W11 : Vec F S32x32 .f32) : Vec F S400x32 .f32 :=
  k0_pay13 (View.ld x (rX i)) (k0_pay7 adj scat) S10 g10 b10 g10 be10 W11

/-- The point's rows of the classifier's sum without the last branch's share. -/
def accBlk (i : grid0.Coords) (adj : Vec F S400x10000 .f32) (x : Vec F S10000x128 .f32) (scat : Vec F S10000x64 .f32)
    (S0 : Vec F S128x32 .f32) (b0 g0 be0 : Vec F S1x32 .f32) (wca : Vec F S128x40 .f32) (wcb : Vec F S32x40 .f32)
    (bc : Vec F S1x40 .f32) : Vec F S400x40 .f32 :=
  k0_pay2 (View.ld x (rX i)) (k0_pay11 (k0_pay8 adj (View.ld x (rX i)) scat S0) (k0_pay9 g0) (k0_pay10 b0 g0) be0) wca wcb bc

/-- What a buffer reads after one store of part of it: the old contents with the stored block over them. -/
theorem read_writes_overlay {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ fun p hp => by
      rw [List.mem_singleton] at hp; subst hp; exact hy

/-! ## The body's triples -/

/-- The first point: the shared product `x @ wcat` is computed into its scratch, and there is no partial product yet. -/
theorem pass1_first (c : Dev nD) (i : grid0.Coords) (h1 : Scalar.cmpi .ne (Scalar.extui (Scalar.cmpi .eq (BitVec.ofNat 32 (i 0).val) 0#32)) 0#32 = 1#1) (h2 : ¬ k0_cond2 i = 1#1) (h3 : k0_cond3 i = 1#1)
    (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S128x32 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S128x40 .f32) (harg12 : arg12.IsWhole) (arg13 : Memref sig .tc .vmem S32x40 .f32) (harg13 : arg13.IsWhole) (arg14 : Memref sig .tc .vmem S1x40 .f32) (harg14 : arg14.IsWhole) (arg15 : Memref sig .tc .vmem S32x32 .f32) (harg15 : arg15.IsWhole) (arg16 : Memref sig .tc .vmem S1x400x10000 .i4) (harg16 : arg16.IsWhole) (arg17 : Memref sig .tc .vmem S400x32 .f32) (harg17 : arg17.IsWhole) (arg18 : Memref sig .tc .vmem S400x32 .f32) (harg18 : arg18.IsWhole) (arg19 : Memref sig .tc .vmem S400x32 .f32) (harg19 : arg19.IsWhole) (arg20 : Memref sig .tc .vmem S400x40 .f32) (harg20 : arg20.IsWhole) (arg21 : Memref sig .tc .vmem S10000x64 .f32) (harg21 : arg21.IsWhole) (arg22 : Memref sig .tc .vmem S10000x32 .bf16) (harg22 : arg22.IsWhole)
    (x1 : Vec F S400x10000 .f32) (x2 : Vec F S10000x128 .f32) (x3 : Vec F S128x64 .f32) (x4 : Vec F S128x32 .f32) (x5 : Vec F S128x32 .f32) (x6 : Vec F S1x32 .f32) (x7 : Vec F S1x32 .f32) (x8 : Vec F S1x32 .f32) (x9 : Vec F S1x32 .f32) (x10 : Vec F S1x32 .f32) (x11 : Vec F S1x32 .f32) (x12 : Vec F S128x40 .f32) (x13 : Vec F S32x40 .f32) (x14 : Vec F S1x40 .f32) (x15 : Vec F S32x32 .f32)  (x22 : Vec F S10000x32 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare x22
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (k0_pay6 x1) ∗ owns (c : Thread nD τ) arg17 fullShare (aBlk i x1 x2 (k0_pay5 x2 x3) x5 x9 x10 x11) ∗ owns (c : Thread nD τ) arg18 fullShare (pBlk i x1 x2 (k0_pay5 x2 x3) x5 x9 x10 x11 x15) ∗ owns (c : Thread nD τ) arg19 fullShare k0_pay4 ∗ owns (c : Thread nD τ) arg20 fullShare (accBlk i x1 x2 (k0_pay5 x2 x3) x4 x6 x7 x8 x12 x13 x14) ∗ owns (c : Thread nD τ) arg21 fullShare (k0_pay5 x2 x3) ∗ owns (c : Thread nD τ) arg22 fullShare ((rRows i).overlay x22 (k0_pay1 (pBlk i x1 x2 (k0_pay5 x2 x3) x5 x9 x10 x11 x15)))) -∗ K ⟨⟩))
      ⊢ wp frame (wpE (defs₀ (F := F)) Variants.none c none) Set.univ (cc0__pass1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__pass1_kernel_eq_skeleton]; unfold cc0__pass1_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, Hk⟩
  subst hf1 hf2 hf3 hf4 hf5 hf6 hf7 hf8 hf9 hf10 hf11 hf12 hf13 hf14 hf15 hf22
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr; swap; · iexact H16
    ipureintro; frame_open
    refine (View.read_writes_full _ _ _ _ _).trans ?_
    simp (disch := decide) only [View.ld_unit_lit', View.readCov_unit_lit', View.readAt_eq_ld, read_writes_overlay, accBlk, aBlk, pBlk]
  isplitl [H17]
  · iexists _; isplitr; swap; · iexact H17
    ipureintro; frame_open
    refine (View.read_writes_full _ _ _ _ _).trans ?_
    simp (disch := decide) only [View.ld_unit_lit', View.readCov_unit_lit', View.readAt_eq_ld, read_writes_overlay, accBlk, aBlk, pBlk]
  isplitl [H18]
  · iexists _; isplitr; swap; · iexact H18
    ipureintro; frame_open
    refine (View.read_writes_full _ _ _ _ _).trans ?_
    simp (disch := decide) only [View.ld_unit_lit', View.readCov_unit_lit', View.readAt_eq_ld, read_writes_overlay, accBlk, aBlk, pBlk]
  isplitl [H19]
  · iexists _; isplitr; swap; · iexact H19
    ipureintro; frame_open
    refine (View.read_writes_full _ _ _ _ _).trans ?_
    simp (disch := decide) only [View.ld_unit_lit', View.readCov_unit_lit', View.readAt_eq_ld, read_writes_overlay, accBlk, aBlk, pBlk]
  isplitl [H20]
  · iexists _; isplitr; swap; · iexact H20
    ipureintro; frame_open
    refine (View.read_writes_full _ _ _ _ _).trans ?_
    simp (disch := decide) only [View.ld_unit_lit', View.readCov_unit_lit', View.readAt_eq_ld, read_writes_overlay, accBlk, aBlk, pBlk]
  isplitl [H21]
  · iexists _; isplitr; swap; · iexact H21
    ipureintro; frame_open
    refine (View.read_writes_full _ _ _ _ _).trans ?_
    simp (disch := decide) only [View.ld_unit_lit', View.readAt_eq_ld]
  iexists _; isplitr; swap; · iexact H22
  ipureintro; frame_open
  simp (disch := decide) only [read_writes_overlay, View.ld_unit_lit', View.readCov_unit_lit', View.readAt_eq_ld, pBlk]

/-- A later point before the thirteenth: the shared product is read from its scratch, and there is no partial product yet. -/
theorem pass1_early (c : Dev nD) (i : grid0.Coords) (h1 : ¬ Scalar.cmpi .ne (Scalar.extui (Scalar.cmpi .eq (BitVec.ofNat 32 (i 0).val) 0#32)) 0#32 = 1#1) (h2 : ¬ k0_cond2 i = 1#1) (h3 : k0_cond3 i = 1#1)
    (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S128x32 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S128x40 .f32) (harg12 : arg12.IsWhole) (arg13 : Memref sig .tc .vmem S32x40 .f32) (harg13 : arg13.IsWhole) (arg14 : Memref sig .tc .vmem S1x40 .f32) (harg14 : arg14.IsWhole) (arg15 : Memref sig .tc .vmem S32x32 .f32) (harg15 : arg15.IsWhole) (arg16 : Memref sig .tc .vmem S1x400x10000 .i4) (harg16 : arg16.IsWhole) (arg17 : Memref sig .tc .vmem S400x32 .f32) (harg17 : arg17.IsWhole) (arg18 : Memref sig .tc .vmem S400x32 .f32) (harg18 : arg18.IsWhole) (arg19 : Memref sig .tc .vmem S400x32 .f32) (harg19 : arg19.IsWhole) (arg20 : Memref sig .tc .vmem S400x40 .f32) (harg20 : arg20.IsWhole) (arg21 : Memref sig .tc .vmem S10000x64 .f32) (harg21 : arg21.IsWhole) (arg22 : Memref sig .tc .vmem S10000x32 .bf16) (harg22 : arg22.IsWhole)
    (x1 : Vec F S400x10000 .f32) (x2 : Vec F S10000x128 .f32) (x3 : Vec F S128x64 .f32) (x4 : Vec F S128x32 .f32) (x5 : Vec F S128x32 .f32) (x6 : Vec F S1x32 .f32) (x7 : Vec F S1x32 .f32) (x8 : Vec F S1x32 .f32) (x9 : Vec F S1x32 .f32) (x10 : Vec F S1x32 .f32) (x11 : Vec F S1x32 .f32) (x12 : Vec F S128x40 .f32) (x13 : Vec F S32x40 .f32) (x14 : Vec F S1x40 .f32) (x15 : Vec F S32x32 .f32) (x21 : Vec F S10000x64 .f32) (x22 : Vec F S10000x32 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (k0_pay6 x1) ∗ owns (c : Thread nD τ) arg17 fullShare (aBlk i x1 x2 x21 x5 x9 x10 x11) ∗ owns (c : Thread nD τ) arg18 fullShare (pBlk i x1 x2 x21 x5 x9 x10 x11 x15) ∗ owns (c : Thread nD τ) arg19 fullShare k0_pay4 ∗ owns (c : Thread nD τ) arg20 fullShare (accBlk i x1 x2 x21 x4 x6 x7 x8 x12 x13 x14) ∗ owns (c : Thread nD τ) arg21 fullShare x21 ∗ owns (c : Thread nD τ) arg22 fullShare ((rRows i).overlay x22 (k0_pay1 (pBlk i x1 x2 x21 x5 x9 x10 x11 x15)))) -∗ K ⟨⟩))
      ⊢ wp frame (wpE (defs₀ (F := F)) Variants.none c none) Set.univ (cc0__pass1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__pass1_kernel_eq_skeleton]; unfold cc0__pass1_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, Hk⟩
  subst hf1 hf2 hf3 hf4 hf5 hf6 hf7 hf8 hf9 hf10 hf11 hf12 hf13 hf14 hf15 hf21 hf22
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr; swap; · iexact H16
    ipureintro; frame_open
    refine (View.read_writes_full _ _ _ _ _).trans ?_
    simp (disch := decide) only [View.ld_unit_lit', View.readCov_unit_lit', View.readAt_eq_ld, read_writes_overlay, accBlk, aBlk, pBlk]
  isplitl [H17]
  · iexists _; isplitr; swap; · iexact H17
    ipureintro; frame_open
    refine (View.read_writes_full _ _ _ _ _).trans ?_
    simp (disch := decide) only [View.ld_unit_lit', View.readCov_unit_lit', View.readAt_eq_ld, read_writes_overlay, accBlk, aBlk, pBlk]
  isplitl [H18]
  · iexists _; isplitr; swap; · iexact H18
    ipureintro; frame_open
    refine (View.read_writes_full _ _ _ _ _).trans ?_
    simp (disch := decide) only [View.ld_unit_lit', View.readCov_unit_lit', View.readAt_eq_ld, read_writes_overlay, accBlk, aBlk, pBlk]
  isplitl [H19]
  · iexists _; isplitr; swap; · iexact H19
    ipureintro; frame_open
    refine (View.read_writes_full _ _ _ _ _).trans ?_
    simp (disch := decide) only [View.ld_unit_lit', View.readCov_unit_lit', View.readAt_eq_ld, read_writes_overlay, accBlk, aBlk, pBlk]
  isplitl [H20]
  · iexists _; isplitr; swap; · iexact H20
    ipureintro; frame_open
    refine (View.read_writes_full _ _ _ _ _).trans ?_
    simp (disch := decide) only [View.ld_unit_lit', View.readCov_unit_lit', View.readAt_eq_ld, read_writes_overlay, accBlk, aBlk, pBlk]
  isplitl [H21]
  · iexists f21; isplitr; · ipureintro; rfl
    iexact H21
  iexists _; isplitr; swap; · iexact H22
  ipureintro; frame_open
  simp (disch := decide) only [read_writes_overlay, View.ld_unit_lit', View.readCov_unit_lit', View.readAt_eq_ld, pBlk]

/-- A point from the thirteenth on: the second layer's product over the first 5120 rows is formed from the rows already in the scratch. -/
theorem pass1_late (c : Dev nD) (i : grid0.Coords) (h1 : ¬ Scalar.cmpi .ne (Scalar.extui (Scalar.cmpi .eq (BitVec.ofNat 32 (i 0).val) 0#32)) 0#32 = 1#1) (h2 : k0_cond2 i = 1#1) (h3 : ¬ k0_cond3 i = 1#1)
    (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S128x32 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S128x40 .f32) (harg12 : arg12.IsWhole) (arg13 : Memref sig .tc .vmem S32x40 .f32) (harg13 : arg13.IsWhole) (arg14 : Memref sig .tc .vmem S1x40 .f32) (harg14 : arg14.IsWhole) (arg15 : Memref sig .tc .vmem S32x32 .f32) (harg15 : arg15.IsWhole) (arg16 : Memref sig .tc .vmem S1x400x10000 .i4) (harg16 : arg16.IsWhole) (arg17 : Memref sig .tc .vmem S400x32 .f32) (harg17 : arg17.IsWhole) (arg18 : Memref sig .tc .vmem S400x32 .f32) (harg18 : arg18.IsWhole) (arg19 : Memref sig .tc .vmem S400x32 .f32) (harg19 : arg19.IsWhole) (arg20 : Memref sig .tc .vmem S400x40 .f32) (harg20 : arg20.IsWhole) (arg21 : Memref sig .tc .vmem S10000x64 .f32) (harg21 : arg21.IsWhole) (arg22 : Memref sig .tc .vmem S10000x32 .bf16) (harg22 : arg22.IsWhole)
    (x1 : Vec F S400x10000 .f32) (x2 : Vec F S10000x128 .f32) (x3 : Vec F S128x64 .f32) (x4 : Vec F S128x32 .f32) (x5 : Vec F S128x32 .f32) (x6 : Vec F S1x32 .f32) (x7 : Vec F S1x32 .f32) (x8 : Vec F S1x32 .f32) (x9 : Vec F S1x32 .f32) (x10 : Vec F S1x32 .f32) (x11 : Vec F S1x32 .f32) (x12 : Vec F S128x40 .f32) (x13 : Vec F S32x40 .f32) (x14 : Vec F S1x40 .f32) (x15 : Vec F S32x32 .f32) (x21 : Vec F S10000x64 .f32) (x22 : Vec F S10000x32 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (k0_pay6 x1) ∗ owns (c : Thread nD τ) arg17 fullShare (aBlk i x1 x2 x21 x5 x9 x10 x11) ∗ owns (c : Thread nD τ) arg18 fullShare (pBlk i x1 x2 x21 x5 x9 x10 x11 x15) ∗ owns (c : Thread nD τ) arg19 fullShare (k0_pay3 (k0_pay6 x1) (View.ld ((rRows i).overlay x22 (k0_pay1 (pBlk i x1 x2 x21 x5 x9 x10 x11 x15))) rLow)) ∗ owns (c : Thread nD τ) arg20 fullShare (accBlk i x1 x2 x21 x4 x6 x7 x8 x12 x13 x14) ∗ owns (c : Thread nD τ) arg21 fullShare x21 ∗ owns (c : Thread nD τ) arg22 fullShare ((rRows i).overlay x22 (k0_pay1 (pBlk i x1 x2 x21 x5 x9 x10 x11 x15)))) -∗ K ⟨⟩))
      ⊢ wp frame (wpE (defs₀ (F := F)) Variants.none c none) Set.univ (cc0__pass1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__pass1_kernel_eq_skeleton]; unfold cc0__pass1_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, Hk⟩
  subst hf1 hf2 hf3 hf4 hf5 hf6 hf7 hf8 hf9 hf10 hf11 hf12 hf13 hf14 hf15 hf21 hf22
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr; swap; · iexact H16
    ipureintro; frame_open
    refine (View.read_writes_full _ _ _ _ _).trans ?_
    simp (disch := decide) only [View.ld_unit_lit', View.readCov_unit_lit', View.readAt_eq_ld, read_writes_overlay, accBlk, aBlk, pBlk]
  isplitl [H17]
  · iexists _; isplitr; swap; · iexact H17
    ipureintro; frame_open
    refine (View.read_writes_full _ _ _ _ _).trans ?_
    simp (disch := decide) only [View.ld_unit_lit', View.readCov_unit_lit', View.readAt_eq_ld, read_writes_overlay, accBlk, aBlk, pBlk]
  isplitl [H18]
  · iexists _; isplitr; swap; · iexact H18
    ipureintro; frame_open
    refine (View.read_writes_full _ _ _ _ _).trans ?_
    simp (disch := decide) only [View.ld_unit_lit', View.readCov_unit_lit', View.readAt_eq_ld, read_writes_overlay, accBlk, aBlk, pBlk]
  isplitl [H19]
  · iexists _; isplitr; swap; · iexact H19
    ipureintro; frame_open
    refine (View.read_writes_full _ _ _ _ _).trans ?_
    simp (disch := decide) only [View.ld_unit_lit', View.readCov_unit_lit', View.readAt_eq_ld, read_writes_overlay, accBlk, aBlk, pBlk]
  isplitl [H20]
  · iexists _; isplitr; swap; · iexact H20
    ipureintro; frame_open
    refine (View.read_writes_full _ _ _ _ _).trans ?_
    simp (disch := decide) only [View.ld_unit_lit', View.readCov_unit_lit', View.readAt_eq_ld, read_writes_overlay, accBlk, aBlk, pBlk]
  isplitl [H21]
  · iexists f21; isplitr; · ipureintro; rfl
    iexact H21
  iexists _; isplitr; swap; · iexact H22
  ipureintro; frame_open
  simp (disch := decide) only [read_writes_overlay, View.ld_unit_lit', View.readCov_unit_lit', View.readAt_eq_ld, pBlk]

end Cert.Proof.Passes

end
-- ==== Proof.Pass1Region.lean ====
/-
  The first pass over its grid: what its scratch buffers hold between points, what each point leaves in its output
  blocks, and the proof that the body does leave that at every point.
-/
module

public import proofs.«01_k».proof.Proof.Pass1Body
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.FrameBody
public import Idealize.ShloMosaic.Lib.Pipeline.Value
public import Idealize.ShloMosaic.Lib.Pipeline.Regions
public import Idealize.ShloMosaic.Lib.Pipeline.ValueKit
public import Idealize.ShloMosaic.Lib.VecWindow

@[expose] public section

set_option maxRecDepth 16384

noncomputable section

namespace Cert.Proof.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The grid -/

theorem coord0 : ∀ t : Fin grid0.N, ((grid0.coords t) 0).val = t.val := by decide +kernel
theorem first0_iff : ∀ t : Fin grid0.N, Scalar.cmpi .ne (Scalar.extui (Scalar.cmpi .eq (BitVec.ofNat 32 ((grid0.coords t) 0).val) 0#32)) 0#32 = 1#1 ↔ t.val = 0 := by decide +kernel
theorem late0_iff : ∀ t : Fin grid0.N, k0_cond2 (grid0.coords t) = 1#1 ↔ 13 ≤ t.val := by decide +kernel
theorem early0_iff : ∀ t : Fin grid0.N, k0_cond3 (grid0.coords t) = 1#1 ↔ t.val < 13 := by decide +kernel
theorem idle0_18 : ∀ i : grid0.Coords, idle0 18 i = false := by decide +kernel

/-! ## What the pass leaves -/

variable (V : (c : Dev nD) → (b : Ref sig .tc) → Buf (Elt F) ((c : Thread nD τ).loc b))

/-- Window `w`'s block at point `t`: the array as the pass finds it, read through the block. -/
abbrev iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point's 400 rows of the adjacency. -/
def adjB (c : Dev nD) (t : Fin cfg0.N) : Vec F S400x10000 .f32 := iblk0 V c 0 t
/-- The shared product `x @ [W0 | W10]`, computed once. -/
def scatV (c : Dev nD) : Vec F S10000x64 .f32 := k0_pay5 (V c main_arg0) (V c main_v9)
/-- The point's rows of the second branch's first activation. -/
def aV (c : Dev nD) (t : Fin cfg0.N) : Vec F S400x32 .f32 :=
  aBlk (grid0.coords t) (adjB V c t) (V c main_arg0) (scatV V c) (V c main_arg8) (V c main_v3) (V c main_v4) (V c main_v5)
/-- The point's rows of the second layer's support. -/
def pV (c : Dev nD) (t : Fin cfg0.N) : Vec F S400x32 .f32 :=
  pBlk (grid0.coords t) (adjB V c t) (V c main_arg0) (scatV V c) (V c main_arg8) (V c main_v3) (V c main_v4) (V c main_v5) (V c main_arg12)
/-- The point's rows of the classifier's sum without the last branch's share. -/
def accV (c : Dev nD) (t : Fin cfg0.N) : Vec F S400x40 .f32 :=
  accBlk (grid0.coords t) (adjB V c t) (V c main_arg0) (scatV V c) (V c main_arg3) (V c main_v0) (V c main_v1) (V c main_v2) (V c main_v10) (V c main_v11) (V c main_v13)
/-- The point that computes row `r` of the support. -/
def ptOf (r : Fin 10000) : Fin cfg0.N := ⟨r.val / 400, by have := r.isLt; show _ < grid0.N; rw [N_0]; omega⟩
/-- The support in bf16, all rows: row `r` is row `r % 400` of what point `r / 400` computes. -/
def s11bV (c : Dev nD) : Vec F S10000x32 .bf16 := fun y =>
  k0_pay1 (pV V c (ptOf (y 0))) (ix2 ⟨(y 0).val % 400, Nat.mod_lt _ (by decide)⟩ (y 1))
/-- The point's share of the second layer's product that the first pass forms: none before the thirteenth point, the
    first 5120 columns from there on. -/
def tpartV (c : Dev nD) (t : Fin cfg0.N) : Vec F S400x32 .f32 :=
  if t.val < 13 then k0_pay4 else k0_pay3 (k0_pay6 (adjB V c t)) (View.ld (s11bV V c) rLow)

/-- What the scratch buffers hold before point `t`: the shared product once the first point has run, and the rows of
    the support that the points before `t` computed. -/
def Φ0 (c : Dev nD) (t : Fin (cfg0.N + 1)) : sProp 𝕄 :=
  iprop((∃ X : Vec F S10000x64 .f32, ⌜0 < t.val → X = scatV V c⌝ ∗ owns (c : Thread nD τ) (Memref.whole cc0_scratch0) fullShare X)
    ∗ (∃ X : Vec F S10000x32 .bf16, ⌜∀ y, (y 0).val < 400 * t.val → X y = s11bV V c y⌝ ∗ owns (c : Thread nD τ) (Memref.whole cc0_scratch1) fullShare X)
    ∗ Pipeline.scopedRestBut (Ix := Unit) (Name := ℕ) (U := UR sig nD τ) (Lvl := ℕ) (Val := Elt F) spec0 c [cc0_scratch0, cc0_scratch1])

/-- The pass's proof data: the arrays as it finds them, each input block left in place, the output blocks at what the
    point computes. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => k0_pay6 (adjB V c t)
    | ⟨16, _⟩ => aV V c t
    | ⟨17, _⟩ => pV V c t
    | ⟨18, _⟩ => tpartV V c t
    | ⟨19, _⟩ => accV V c t
    | ⟨_ + 20, h⟩ => absurd h (Nat.not_lt.2 (Nat.le_add_left _ _))
  Φ t := Φ0 V c t
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = k0_pay6 (adjB V c t) := by dsimp only [dat0]
theorem after0_16 (c : Dev nD) (t : Fin cfg0.N) : (dat0 V c).after 16 t = aV V c t := by dsimp only [dat0]
theorem after0_17 (c : Dev nD) (t : Fin cfg0.N) : (dat0 V c).after 17 t = pV V c t := by dsimp only [dat0]
theorem after0_18 (c : Dev nD) (t : Fin cfg0.N) : (dat0 V c).after 18 t = tpartV V c t := by dsimp only [dat0]
theorem after0_19 (c : Dev nD) (t : Fin cfg0.N) : (dat0 V c).after 19 t = accV V c t := by dsimp only [dat0]

/-! Each input's staging buffer holds its block whenever the body runs. -/

theorem before0_0 (c : Dev nD) (t : Fin cfg0.N) (d) : (dat0 V c).before 0 t d = adjB V c t :=
  (dat0 V c).before_in_eq_fetched 0 rfl (fun _ => rfl) (fun _ _ _ => rfl) (fun t => by rw [after0_0]; rfl) t d
theorem before0_1 (c : Dev nD) (t : Fin cfg0.N) (d) : (dat0 V c).before 1 t d = iblk0 V c 1 t :=
  (dat0 V c).before_in_eq_fetched 1 rfl (fun _ => rfl) (fun _ _ _ => rfl) (fun t => by rw [after0_1]; rfl) t d
theorem before0_2 (c : Dev nD) (t : Fin cfg0.N) (d) : (dat0 V c).before 2 t d = iblk0 V c 2 t :=
  (dat0 V c).before_in_eq_fetched 2 rfl (fun _ => rfl) (fun _ _ _ => rfl) (fun t => by rw [after0_2]; rfl) t d
theorem before0_3 (c : Dev nD) (t : Fin cfg0.N) (d) : (dat0 V c).before 3 t d = iblk0 V c 3 t :=
  (dat0 V c).before_in_eq_fetched 3 rfl (fun _ => rfl) (fun _ _ _ => rfl) (fun t => by rw [after0_3]; rfl) t d
theorem before0_4 (c : Dev nD) (t : Fin cfg0.N) (d) : (dat0 V c).before 4 t d = iblk0 V c 4 t :=
  (dat0 V c).before_in_eq_fetched 4 rfl (fun _ => rfl) (fun _ _ _ => rfl) (fun t => by rw [after0_4]; rfl) t d
theorem before0_5 (c : Dev nD) (t : Fin cfg0.N) (d) : (dat0 V c).before 5 t d = iblk0 V c 5 t :=
  (dat0 V c).before_in_eq_fetched 5 rfl (fun _ => rfl) (fun _ _ _ => rfl) (fun t => by rw [after0_5]; rfl) t d
theorem before0_6 (c : Dev nD) (t : Fin cfg0.N) (d) : (dat0 V c).before 6 t d = iblk0 V c 6 t :=
  (dat0 V c).before_in_eq_fetched 6 rfl (fun _ => rfl) (fun _ _ _ => rfl) (fun t => by rw [after0_6]; rfl) t d
theorem before0_7 (c : Dev nD) (t : Fin cfg0.N) (d) : (dat0 V c).before 7 t d = iblk0 V c 7 t :=
  (dat0 V c).before_in_eq_fetched 7 rfl (fun _ => rfl) (fun _ _ _ => rfl) (fun t => by rw [after0_7]; rfl) t d
theorem before0_8 (c : Dev nD) (t : Fin cfg0.N) (d) : (dat0 V c).before 8 t d = iblk0 V c 8 t :=
  (dat0 V c).before_in_eq_fetched 8 rfl (fun _ => rfl) (fun _ _ _ => rfl) (fun t => by rw [after0_8]; rfl) t d
theorem before0_9 (c : Dev nD) (t : Fin cfg0.N) (d) : (dat0 V c).before 9 t d = iblk0 V c 9 t :=
  (dat0 V c).before_in_eq_fetched 9 rfl (fun _ => rfl) (fun _ _ _ => rfl) (fun t => by rw [after0_9]; rfl) t d
theorem before0_10 (c : Dev nD) (t : Fin cfg0.N) (d) : (dat0 V c).before 10 t d = iblk0 V c 10 t :=
  (dat0 V c).before_in_eq_fetched 10 rfl (fun _ => rfl) (fun _ _ _ => rfl) (fun t => by rw [after0_10]; rfl) t d
theorem before0_11 (c : Dev nD) (t : Fin cfg0.N) (d) : (dat0 V c).before 11 t d = iblk0 V c 11 t :=
  (dat0 V c).before_in_eq_fetched 11 rfl (fun _ => rfl) (fun _ _ _ => rfl) (fun t => by rw [after0_11]; rfl) t d
theorem before0_12 (c : Dev nD) (t : Fin cfg0.N) (d) : (dat0 V c).before 12 t d = iblk0 V c 12 t :=
  (dat0 V c).before_in_eq_fetched 12 rfl (fun _ => rfl) (fun _ _ _ => rfl) (fun t => by rw [after0_12]; rfl) t d
theorem before0_13 (c : Dev nD) (t : Fin cfg0.N) (d) : (dat0 V c).before 13 t d = iblk0 V c 13 t :=
  (dat0 V c).before_in_eq_fetched 13 rfl (fun _ => rfl) (fun _ _ _ => rfl) (fun t => by rw [after0_13]; rfl) t d
theorem before0_14 (c : Dev nD) (t : Fin cfg0.N) (d) : (dat0 V c).before 14 t d = iblk0 V c 14 t :=
  (dat0 V c).before_in_eq_fetched 14 rfl (fun _ => rfl) (fun _ _ _ => rfl) (fun t => by rw [after0_14]; rfl) t d

/-! A constant window's block is the whole array. -/

theorem iblk0_1 (c : Dev nD) (t : Fin cfg0.N) : iblk0 V c 1 t = V c main_arg0 := by
  have e : win0_1.index t = ![0, 0] := rfl
  funext y; show V c main_arg0 ((win0_1.blk t).view.emb y) = V c main_arg0 y; congr 1; blk_ext [e]
theorem iblk0_2 (c : Dev nD) (t : Fin cfg0.N) : iblk0 V c 2 t = V c main_v9 := by
  have e : win0_2.index t = ![0, 0] := rfl
  funext y; show V c main_v9 ((win0_2.blk t).view.emb y) = V c main_v9 y; congr 1; blk_ext [e]
theorem iblk0_3 (c : Dev nD) (t : Fin cfg0.N) : iblk0 V c 3 t = V c main_arg3 := by
  have e : win0_3.index t = ![0, 0] := rfl
  funext y; show V c main_arg3 ((win0_3.blk t).view.emb y) = V c main_arg3 y; congr 1; blk_ext [e]
theorem iblk0_4 (c : Dev nD) (t : Fin cfg0.N) : iblk0 V c 4 t = V c main_arg8 := by
  have e : win0_4.index t = ![0, 0] := rfl
  funext y; show V c main_arg8 ((win0_4.blk t).view.emb y) = V c main_arg8 y; congr 1; blk_ext [e]
theorem iblk0_5 (c : Dev nD) (t : Fin cfg0.N) : iblk0 V c 5 t = V c main_v0 := by
  have e : win0_5.index t = ![0, 0] := rfl
  funext y; show V c main_v0 ((win0_5.blk t).view.emb y) = V c main_v0 y; congr 1; blk_ext [e]
theorem iblk0_6 (c : Dev nD) (t : Fin cfg0.N) : iblk0 V c 6 t = V c main_v1 := by
  have e : win0_6.index t = ![0, 0] := rfl
  funext y; show V c main_v1 ((win0_6.blk t).view.emb y) = V c main_v1 y; congr 1; blk_ext [e]
theorem iblk0_7 (c : Dev nD) (t : Fin cfg0.N) : iblk0 V c 7 t = V c main_v2 := by
  have e : win0_7.index t = ![0, 0] := rfl
  funext y; show V c main_v2 ((win0_7.blk t).view.emb y) = V c main_v2 y; congr 1; blk_ext [e]
theorem iblk0_8 (c : Dev nD) (t : Fin cfg0.N) : iblk0 V c 8 t = V c main_v3 := by
  have e : win0_8.index t = ![0, 0] := rfl
  funext y; show V c main_v3 ((win0_8.blk t).view.emb y) = V c main_v3 y; congr 1; blk_ext [e]
theorem iblk0_9 (c : Dev nD) (t : Fin cfg0.N) : iblk0 V c 9 t = V c main_v4 := by
  have e : win0_9.index t = ![0, 0] := rfl
  funext y; show V c main_v4 ((win0_9.blk t).view.emb y) = V c main_v4 y; congr 1; blk_ext [e]
theorem iblk0_10 (c : Dev nD) (t : Fin cfg0.N) : iblk0 V c 10 t = V c main_v5 := by
  have e : win0_10.index t = ![0, 0] := rfl
  funext y; show V c main_v5 ((win0_10.blk t).view.emb y) = V c main_v5 y; congr 1; blk_ext [e]
theorem iblk0_11 (c : Dev nD) (t : Fin cfg0.N) : iblk0 V c 11 t = V c main_v10 := by
  have e : win0_11.index t = ![0, 0] := rfl
  funext y; show V c main_v10 ((win0_11.blk t).view.emb y) = V c main_v10 y; congr 1; blk_ext [e]
theorem iblk0_12 (c : Dev nD) (t : Fin cfg0.N) : iblk0 V c 12 t = V c main_v11 := by
  have e : win0_12.index t = ![0, 0] := rfl
  funext y; show V c main_v11 ((win0_12.blk t).view.emb y) = V c main_v11 y; congr 1; blk_ext [e]
theorem iblk0_13 (c : Dev nD) (t : Fin cfg0.N) : iblk0 V c 13 t = V c main_v13 := by
  have e : win0_13.index t = ![0, 0] := rfl
  funext y; show V c main_v13 ((win0_13.blk t).view.emb y) = V c main_v13 y; congr 1; blk_ext [e]
theorem iblk0_14 (c : Dev nD) (t : Fin cfg0.N) : iblk0 V c 14 t = V c main_arg12 := by
  have e : win0_14.index t = ![0, 0] := rfl
  funext y; show V c main_arg12 ((win0_14.blk t).view.emb y) = V c main_arg12 y; congr 1; blk_ext [e]

/-! ## The rows the support's scratch holds -/

/-- After point `t` has stored its rows, the scratch holds the rows of the points up to `t`. -/
theorem overlay_rows (c : Dev nD) (t : Fin cfg0.N) (X : Vec F S10000x32 .bf16)
    (hX : ∀ y, (y 0).val < 400 * t.val → X y = s11bV V c y) (y : S10000x32.Idx) (hy : (y 0).val < 400 * (t.val + 1)) :
    (rRows (grid0.coords t)).overlay X (k0_pay1 (pV V c t)) y = s11bV V c y := by
  have e : k0_off2 (grid0.coords t) = ![400 * t.val, 0] := by rw [k0_off2_eq, coord0]
  by_cases h : y ∈ (rRows (grid0.coords t)).set
  · obtain ⟨x, rfl⟩ : ∃ x, (rRows (grid0.coords t)).emb x = y := (rRows (grid0.coords t)).exists_idx_of_mem h
    rw [Rect.overlay_emb]
    have h0 : (((rRows (grid0.coords t)).emb x) 0).val = 400 * t.val + (x 0).val := by
      rw [ValueKit.rect_emb_unit_val]; have := congrFun e 0; show k0_off2 (grid0.coords t) 0 + (x 0).val = _; rw [show k0_off2 (grid0.coords t) 0 = 400 * t.val from this]
    have h1 : (((rRows (grid0.coords t)).emb x) 1).val = (x 1).val := by
      rw [ValueKit.rect_emb_unit_val]; have := congrFun e 1; show k0_off2 (grid0.coords t) 1 + (x 1).val = _; rw [show k0_off2 (grid0.coords t) 1 = 0 from this, Nat.zero_add]
    have hx : (x 0).val < 400 := (x 0).isLt
    unfold s11bV
    have hp : ptOf (((rRows (grid0.coords t)).emb x) 0) = t := Fin.ext (by show _ / 400 = _; rw [h0]; omega)
    rw [hp]
    congr 1
    funext a
    fin_cases a
    · exact Fin.ext (by show (x 0).val = _ % 400; rw [h0]; omega)
    · exact Fin.ext h1.symm
  · rw [Rect.overlay_of_not_mem _ _ _ h]
    refine hX y (by_contra fun hlt => h ?_)
    rw [Rect.mem_set_unit]
    have hy1 : (y 1).val < 32 := (y 1).isLt
    intro a
    rw [e]
    fin_cases a
    · exact ⟨by show 400 * t.val ≤ (y 0).val; omega, by show (y 0).val < 400 * t.val + 400; omega⟩
    · exact ⟨by show 0 ≤ (y 1).val; omega, by show (y 1).val < 0 + 32; omega⟩

/-- From the thirteenth point on the first 5120 rows are all there. -/
theorem ld_low (c : Dev nD) (t : Fin cfg0.N) (ht : 13 ≤ t.val) (X : Vec F S10000x32 .bf16)
    (hX : ∀ y, (y 0).val < 400 * t.val → X y = s11bV V c y) :
    View.ld ((rRows (grid0.coords t)).overlay X (k0_pay1 (pV V c t))) rLow = View.ld (s11bV V c) rLow := by
  funext x
  refine overlay_rows V c t X hX _ ?_
  have h0 : ((rLow.emb x) 0).val = (x 0).val := by rw [ValueKit.rect_emb_unit_val]; exact Nat.zero_add _
  have hx : (x 0).val < 5120 := (x 0).isLt
  show ((rLow.emb x) 0).val < _
  omega

/-! ## The body's obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t))

/-- The first point. -/
theorem sound_first0 (c : Dev nD) (t : Fin cfg0.N) (ht : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, after0_0, after0_1, after0_2, after0_3, after0_4, after0_5, after0_6, after0_7, after0_8, after0_9, after0_10, after0_11, after0_12, after0_13, after0_14, after0_15, after0_16, after0_17, after0_18, after0_19]
  rw [iblk0_1, iblk0_2, iblk0_3, iblk0_4, iblk0_5, iblk0_6, iblk0_7, iblk0_8, iblk0_9, iblk0_10, iblk0_11, iblk0_12, iblk0_13, iblk0_14]
  rw [show (dat0 V c).Φ t.castSucc = Φ0 V c t.castSucc from rfl, show (dat0 V c).Φ t.succ = Φ0 V c t.succ from rfl,
    show (dat0 V c).owesAt () t.succ = (dat0 V c).owesAt () t.castSucc from rfl]
  unfold Φ0
  iintro ⟨⟨⟨%X21, %hX21, H21⟩, ⟨%X22, %hX22, H22⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  have h1 := (first0_iff t).2 ht
  have h2 : ¬ k0_cond2 (grid0.coords t) = 1#1 := fun h => by have := (late0_iff t).1 h; omega
  have h18 : t.val < 13 := by omega
  have h3 := (early0_iff t).2 h18
  iapply (pass1_first c (grid0.coords t) h1 h2 h3 _ _ _ _ _ _ _ _ _ _ _ _ _ _ _ _ _ _ _ _ _ _ _ _ _ _ _ _ _ _ _ _ _ _ _ _ _ _ _ _ _ _ _ _ (adjB V c t) (V c main_arg0) (V c main_v9) (V c main_arg3) (V c main_arg8) (V c main_v0) (V c main_v1) (V c main_v2) (V c main_v3) (V c main_v4) (V c main_v5) (V c main_v10) (V c main_v11) (V c main_v13) (V c main_arg12) X22 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H21]; · iexists _; iexact H21
  isplitl [H22]; · iexact H22
  iintro ⟨H0, H1, H2, H3, H4, H5, H6, H7, H8, H9, H10, H11, H12, H13, H14, H15, H16, H17, H18, H19, H21, H22⟩
  isplitl [H21 H22 HR]
  · isplitl [H21]
    · iexists _; isplitr; swap; · iexact H21
      ipureintro; exact fun _ => rfl
    isplitl [H22]
    · iexists _; isplitr; swap; · iexact H22
      ipureintro; exact fun y hy => overlay_rows V c t X22 hX22 y hy
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · rw [show tpartV V c t = k0_pay4 from if_pos h18]; iexact H18
  iexact H19

/-- A later point before the thirteenth. -/
theorem sound_early0 (c : Dev nD) (t : Fin cfg0.N) (h0 : ¬ t.val = 0) (h18 : t.val < 13) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, after0_0, after0_1, after0_2, after0_3, after0_4, after0_5, after0_6, after0_7, after0_8, after0_9, after0_10, after0_11, after0_12, after0_13, after0_14, after0_15, after0_16, after0_17, after0_18, after0_19]
  rw [iblk0_1, iblk0_2, iblk0_3, iblk0_4, iblk0_5, iblk0_6, iblk0_7, iblk0_8, iblk0_9, iblk0_10, iblk0_11, iblk0_12, iblk0_13, iblk0_14]
  rw [show (dat0 V c).Φ t.castSucc = Φ0 V c t.castSucc from rfl, show (dat0 V c).Φ t.succ = Φ0 V c t.succ from rfl,
    show (dat0 V c).owesAt () t.succ = (dat0 V c).owesAt () t.castSucc from rfl]
  unfold Φ0
  iintro ⟨⟨⟨%X21, %hX21, H21⟩, ⟨%X22, %hX22, H22⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  obtain rfl := hX21 (Nat.pos_of_ne_zero h0)
  have h1 := fun h => h0 ((first0_iff t).1 h)
  have h2 : ¬ k0_cond2 (grid0.coords t) = 1#1 := fun h => by have := (late0_iff t).1 h; omega
  have h3 := (early0_iff t).2 h18
  iapply (pass1_early c (grid0.coords t) h1 h2 h3 _ _ _ _ _ _ _ _ _ _ _ _ _ _ _ _ _ _ _ _ _ _ _ _ _ _ _ _ _ _ _ _ _ _ _ _ _ _ _ _ _ _ _ _ (adjB V c t) (V c main_arg0) (V c main_v9) (V c main_arg3) (V c main_arg8) (V c main_v0) (V c main_v1) (V c main_v2) (V c main_v3) (V c main_v4) (V c main_v5) (V c main_v10) (V c main_v11) (V c main_v13) (V c main_arg12) (scatV V c) X22 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H21]; · iexact H21
  isplitl [H22]; · iexact H22
  iintro ⟨H0, H1, H2, H3, H4, H5, H6, H7, H8, H9, H10, H11, H12, H13, H14, H15, H16, H17, H18, H19, H21, H22⟩
  isplitl [H21 H22 HR]
  · isplitl [H21]
    · iexists _; isplitr; swap; · iexact H21
      ipureintro; exact fun _ => rfl
    isplitl [H22]
    · iexists _; isplitr; swap; · iexact H22
      ipureintro; exact fun y hy => overlay_rows V c t X22 hX22 y hy
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · rw [show tpartV V c t = k0_pay4 from if_pos h18]; iexact H18
  iexact H19

/-- A point from the thirteenth on. -/
theorem sound_late0 (c : Dev nD) (t : Fin cfg0.N) (ht : 13 ≤ t.val) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, after0_0, after0_1, after0_2, after0_3, after0_4, after0_5, after0_6, after0_7, after0_8, after0_9, after0_10, after0_11, after0_12, after0_13, after0_14, after0_15, after0_16, after0_17, after0_18, after0_19]
  rw [iblk0_1, iblk0_2, iblk0_3, iblk0_4, iblk0_5, iblk0_6, iblk0_7, iblk0_8, iblk0_9, iblk0_10, iblk0_11, iblk0_12, iblk0_13, iblk0_14]
  rw [show (dat0 V c).Φ t.castSucc = Φ0 V c t.castSucc from rfl, show (dat0 V c).Φ t.succ = Φ0 V c t.succ from rfl,
    show (dat0 V c).owesAt () t.succ = (dat0 V c).owesAt () t.castSucc from rfl]
  unfold Φ0
  iintro ⟨⟨⟨%X21, %hX21, H21⟩, ⟨%X22, %hX22, H22⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  have h18 : ¬ t.val < 13 := by omega
  obtain rfl := hX21 (by show 0 < t.val; omega)
  have h1 : ¬ Scalar.cmpi .ne (Scalar.extui (Scalar.cmpi .eq (BitVec.ofNat 32 ((grid0.coords t) 0).val) 0#32)) 0#32 = 1#1 := fun h => by have := (first0_iff t).1 h; omega
  have h2 := (late0_iff t).2 ht
  have h3 : ¬ k0_cond3 (grid0.coords t) = 1#1 := fun h => h18 ((early0_iff t).1 h)
  iapply (pass1_late c (grid0.coords t) h1 h2 h3 _ _ _ _ _ _ _ _ _ _ _ _ _ _ _ _ _ _ _ _ _ _ _ _ _ _ _ _ _ _ _ _ _ _ _ _ _ _ _ _ _ _ _ _ (adjB V c t) (V c main_arg0) (V c main_v9) (V c main_arg3) (V c main_arg8) (V c main_v0) (V c main_v1) (V c main_v2) (V c main_v3) (V c main_v4) (V c main_v5) (V c main_v10) (V c main_v11) (V c main_v13) (V c main_arg12) (scatV V c) X22 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H21]; · iexact H21
  isplitl [H22]; · iexact H22
  iintro ⟨H0, H1, H2, H3, H4, H5, H6, H7, H8, H9, H10, H11, H12, H13, H14, H15, H16, H17, H18, H19, H21, H22⟩
  isplitl [H21 H22 HR]
  · isplitl [H21]
    · iexists _; isplitr; swap; · iexact H21
      ipureintro; exact fun _ => rfl
    isplitl [H22]
    · iexists _; isplitr; swap; · iexact H22
      ipureintro; exact fun y hy => overlay_rows V c t X22 hX22 y hy
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · rw [show tpartV V c t = k0_pay3 (k0_pay6 (adjB V c t)) (View.ld (s11bV V c) rLow) from if_neg h18, ← ld_low V c t ht X22 hX22]; iexact H18
  iexact H19

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val = 0
  · exact sound_first0 V c t h0
  by_cases h : t.val < 13
  · exact sound_early0 V c t h0 h
  · exact sound_late0 V c t (by omega)

/-- The body table's row at point `t`'s slots is the body as `bodyAt0` spells it. -/
theorem row0 (t : Fin cfg0.N) : defs₀ (F := F) .tc cfg0.body (cfg0.bodyArgs t (cfg0.slots t)) = bodyAt0 t := by
  unfold defs₀; rw [Defs.onTc_tc]

/-- The body's obligation at every point. -/
theorem obligation0 (c : Dev nD) : BodyObligation (dat0 V c) (defs₀ (F := F)) Variants.none () Set.univ := fun t => by
  have h18 : cfg0.idle 18 (cfg0.grid.coords t) = false := idle0_18 _
  rw [bigSep_W0, bigSep_W0, row0, h18]
  exact triple_restated (sound_body0 V c t) rfl .rfl fun _ => .rfl

end Cert.Proof.Passes

end
-- ==== Proof.Pass2Body.lean ====
/-
  The second pass's body: what one grid point computes, and the triple that says so.
-/
module

public import proofs.«01_k».proof.Proof.Pass1Body
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.FrameBody
public import Idealize.ShloMosaic.Lib.Pipeline.Value
public import Idealize.ShloMosaic.Lib.Pipeline.Regions
public import Idealize.ShloMosaic.Lib.Pipeline.ValueKit
public import Idealize.ShloMosaic.Lib.VecWindow

@[expose] public section

set_option maxRecDepth 16384

noncomputable section

namespace Cert.Proof.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## What one point computes -/

/-- The last 4880 rows of the bf16 scratch: those the late points read. -/
abbrev rHigh : Rect S10000x32 := Rect.unit (s := S10000x32) ![5120, 0] S4880x32.size inb_S10000x32_S4880x32_5120_0

/-- The point's rows of the result, from the second layer's product (over all the rows, or over the last 4880). -/
def outBlk (tq : Vec F S400x32 .f32) (tpart a : Vec F S400x32 .f32) (acc : Vec F S400x40 .f32) (S11 : Vec F S32x32 .f32)
    (b11 g11 be11 : Vec F S1x32 .f32) (wcc : Vec F S32x40 .f32) (wa : Vec F S1x32 .f32) : Vec F S400x40 .f32 :=
  k1_pay1 (k1_pay2 g11) (k1_pay3 b11 g11 be11) (k1_pay8 a S11) (k1_pay9 tq tpart) wa acc wcc

/-! ## The body's triples -/

/-- The first point: the support rounded to bf16 and the scaled batch-norm factor are put into their scratches, then read. -/
theorem pass2_first (c : Dev nD) (i : grid1.Coords) (h1 : Scalar.cmpi .ne (Scalar.extui (Scalar.cmpi .eq (BitVec.ofNat 32 (i 0).val) 0#32)) 0#32 = 1#1) (h2 : Scalar.cmpi .ne (Scalar.extui (Scalar.cmpi .slt (BitVec.ofNat 32 (i 0).val) 13#32)) 0#32 = 1#1) (h3 : ¬ Scalar.cmpi .ne (Scalar.extui (Scalar.cmpi .sge (BitVec.ofNat 32 (i 0).val) 13#32)) 0#32 = 1#1)
    (arg1 : Memref sig .tc .vmem S1x400x10000 .i4) (harg1 : arg1.IsWhole) (arg2 : Memref sig .tc .vmem S10000x32 .f32) (harg2 : arg2.IsWhole) (arg3 : Memref sig .tc .vmem S400x32 .f32) (harg3 : arg3.IsWhole) (arg4 : Memref sig .tc .vmem S400x32 .f32) (harg4 : arg4.IsWhole) (arg5 : Memref sig .tc .vmem S400x40 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S32x40 .f32) (harg10 : arg10.IsWhole) (arg11 : Memref sig .tc .vmem S400x40 .f32) (harg11 : arg11.IsWhole) (arg12 : Memref sig .tc .vmem S10000x32 .bf16) (harg12 : arg12.IsWhole) (arg13 : Memref sig .tc .vmem S1x32 .f32) (harg13 : arg13.IsWhole) (arg14 : Memref sig .tc .vmem S400x32 .f32) (harg14 : arg14.IsWhole)
    (x1 : Vec F S1x400x10000 .i4) (x2 : Vec F S10000x32 .f32) (x3 : Vec F S400x32 .f32) (x4 : Vec F S400x32 .f32) (x5 : Vec F S400x40 .f32) (x6 : Vec F S32x32 .f32) (x7 : Vec F S1x32 .f32) (x8 : Vec F S1x32 .f32) (x9 : Vec F S1x32 .f32) (x10 : Vec F S32x40 .f32)  (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outBlk (k1_pay6 x1 (k1_pay4 x2)) x4 x3 x5 x6 x7 x8 x9 x10 (k1_pay5 x8)) ∗ owns (c : Thread nD τ) arg12 fullShare (k1_pay4 x2) ∗ owns (c : Thread nD τ) arg13 fullShare (k1_pay5 x8) ∗ (∃ d, owns (c : Thread nD τ) arg14 fullShare d)) -∗ K ⟨⟩))
      ⊢ wp frame (wpE (defs₀ (F := F)) Variants.none c none) Set.univ (cc1__pass2_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  subst hf1 hf2 hf3 hf4 hf5 hf6 hf7 hf8 hf9 hf10
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr; swap; · iexact H11
    ipureintro; frame_open
    refine (View.read_writes_full _ _ _ _ _).trans ?_
    simp (disch := decide) only [View.ld_unit_lit', View.readCov_unit_lit', View.readAt_eq_ld, outBlk]
  isplitl [H12]
  · iexists _; isplitr; swap; · iexact H12
    ipureintro; frame_open
    refine (View.read_writes_full _ _ _ _ _).trans ?_
    simp (disch := decide) only [View.ld_unit_lit', View.readCov_unit_lit', View.readAt_eq_ld, outBlk]
  isplitl [H13]
  · iexists _; isplitr; swap; · iexact H13
    ipureintro; frame_open
    refine (View.read_writes_full _ _ _ _ _).trans ?_
    simp (disch := decide) only [View.ld_unit_lit', View.readCov_unit_lit', View.readAt_eq_ld, outBlk]
  iexists _; iexists _; isplitr; swap; · iexact H14
  ipureintro; rfl

/-- A later point before the thirteenth: the product runs over all the rows. -/
theorem pass2_early (c : Dev nD) (i : grid1.Coords) (h1 : ¬ Scalar.cmpi .ne (Scalar.extui (Scalar.cmpi .eq (BitVec.ofNat 32 (i 0).val) 0#32)) 0#32 = 1#1) (h2 : Scalar.cmpi .ne (Scalar.extui (Scalar.cmpi .slt (BitVec.ofNat 32 (i 0).val) 13#32)) 0#32 = 1#1) (h3 : ¬ Scalar.cmpi .ne (Scalar.extui (Scalar.cmpi .sge (BitVec.ofNat 32 (i 0).val) 13#32)) 0#32 = 1#1)
    (arg1 : Memref sig .tc .vmem S1x400x10000 .i4) (harg1 : arg1.IsWhole) (arg2 : Memref sig .tc .vmem S10000x32 .f32) (harg2 : arg2.IsWhole) (arg3 : Memref sig .tc .vmem S400x32 .f32) (harg3 : arg3.IsWhole) (arg4 : Memref sig .tc .vmem S400x32 .f32) (harg4 : arg4.IsWhole) (arg5 : Memref sig .tc .vmem S400x40 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S32x40 .f32) (harg10 : arg10.IsWhole) (arg11 : Memref sig .tc .vmem S400x40 .f32) (harg11 : arg11.IsWhole) (arg12 : Memref sig .tc .vmem S10000x32 .bf16) (harg12 : arg12.IsWhole) (arg13 : Memref sig .tc .vmem S1x32 .f32) (harg13 : arg13.IsWhole) (arg14 : Memref sig .tc .vmem S400x32 .f32) (harg14 : arg14.IsWhole)
    (x1 : Vec F S1x400x10000 .i4) (x2 : Vec F S10000x32 .f32) (x3 : Vec F S400x32 .f32) (x4 : Vec F S400x32 .f32) (x5 : Vec F S400x40 .f32) (x6 : Vec F S32x32 .f32) (x7 : Vec F S1x32 .f32) (x8 : Vec F S1x32 .f32) (x9 : Vec F S1x32 .f32) (x10 : Vec F S32x40 .f32) (x12 : Vec F S10000x32 .bf16) (x13 : Vec F S1x32 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13 ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outBlk (k1_pay6 x1 x12) x4 x3 x5 x6 x7 x8 x9 x10 x13) ∗ owns (c : Thread nD τ) arg12 fullShare x12 ∗ owns (c : Thread nD τ) arg13 fullShare x13 ∗ (∃ d, owns (c : Thread nD τ) arg14 fullShare d)) -∗ K ⟨⟩))
      ⊢ wp frame (wpE (defs₀ (F := F)) Variants.none c none) Set.univ (cc1__pass2_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, Hk⟩
  subst hf1 hf2 hf3 hf4 hf5 hf6 hf7 hf8 hf9 hf10 hf12 hf13
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr; swap; · iexact H11
    ipureintro; frame_open
    refine (View.read_writes_full _ _ _ _ _).trans ?_
    simp (disch := decide) only [View.ld_unit_lit', View.readCov_unit_lit', View.readAt_eq_ld, outBlk]
  isplitl [H12]
  · iexists f12; isplitr; · ipureintro; rfl
    iexact H12
  isplitl [H13]
  · iexists f13; isplitr; · ipureintro; rfl
    iexact H13
  iexists _; iexists _; isplitr; swap; · iexact H14
  ipureintro; rfl

/-- A point from the thirteenth on: the product runs over the last 4880 rows, the rest coming from the first pass. -/
theorem pass2_late (c : Dev nD) (i : grid1.Coords) (h1 : ¬ Scalar.cmpi .ne (Scalar.extui (Scalar.cmpi .eq (BitVec.ofNat 32 (i 0).val) 0#32)) 0#32 = 1#1) (h2 : ¬ Scalar.cmpi .ne (Scalar.extui (Scalar.cmpi .slt (BitVec.ofNat 32 (i 0).val) 13#32)) 0#32 = 1#1) (h3 : Scalar.cmpi .ne (Scalar.extui (Scalar.cmpi .sge (BitVec.ofNat 32 (i 0).val) 13#32)) 0#32 = 1#1)
    (arg1 : Memref sig .tc .vmem S1x400x10000 .i4) (harg1 : arg1.IsWhole) (arg2 : Memref sig .tc .vmem S10000x32 .f32) (harg2 : arg2.IsWhole) (arg3 : Memref sig .tc .vmem S400x32 .f32) (harg3 : arg3.IsWhole) (arg4 : Memref sig .tc .vmem S400x32 .f32) (harg4 : arg4.IsWhole) (arg5 : Memref sig .tc .vmem S400x40 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S32x40 .f32) (harg10 : arg10.IsWhole) (arg11 : Memref sig .tc .vmem S400x40 .f32) (harg11 : arg11.IsWhole) (arg12 : Memref sig .tc .vmem S10000x32 .bf16) (harg12 : arg12.IsWhole) (arg13 : Memref sig .tc .vmem S1x32 .f32) (harg13 : arg13.IsWhole) (arg14 : Memref sig .tc .vmem S400x32 .f32) (harg14 : arg14.IsWhole)
    (x1 : Vec F S1x400x10000 .i4) (x2 : Vec F S10000x32 .f32) (x3 : Vec F S400x32 .f32) (x4 : Vec F S400x32 .f32) (x5 : Vec F S400x40 .f32) (x6 : Vec F S32x32 .f32) (x7 : Vec F S1x32 .f32) (x8 : Vec F S1x32 .f32) (x9 : Vec F S1x32 .f32) (x10 : Vec F S32x40 .f32) (x12 : Vec F S10000x32 .bf16) (x13 : Vec F S1x32 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13 ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outBlk (k1_pay7 x1 (View.ld x12 rHigh)) x4 x3 x5 x6 x7 x8 x9 x10 x13) ∗ owns (c : Thread nD τ) arg12 fullShare x12 ∗ owns (c : Thread nD τ) arg13 fullShare x13 ∗ (∃ d, owns (c : Thread nD τ) arg14 fullShare d)) -∗ K ⟨⟩))
      ⊢ wp frame (wpE (defs₀ (F := F)) Variants.none c none) Set.univ (cc1__pass2_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, Hk⟩
  subst hf1 hf2 hf3 hf4 hf5 hf6 hf7 hf8 hf9 hf10 hf12 hf13
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr; swap; · iexact H11
    ipureintro; frame_open
    refine (View.read_writes_full _ _ _ _ _).trans ?_
    simp (disch := decide) only [View.ld_unit_lit', View.readCov_unit_lit', View.readAt_eq_ld, outBlk]
  isplitl [H12]
  · iexists f12; isplitr; · ipureintro; rfl
    iexact H12
  isplitl [H13]
  · iexists f13; isplitr; · ipureintro; rfl
    iexact H13
  iexists _; iexists _; isplitr; swap; · iexact H14
  ipureintro; rfl

end Cert.Proof.Passes

end
-- ==== Proof.Pass2Region.lean ====
/-
  The second pass over its grid: what its scratch buffers hold between points, what each point leaves in its output
  block, and the proof that the body does leave that at every point.
-/
module

public import proofs.«01_k».proof.Proof.Pass2Body
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.FrameBody
public import Idealize.ShloMosaic.Lib.Pipeline.Value
public import Idealize.ShloMosaic.Lib.Pipeline.Regions
public import Idealize.ShloMosaic.Lib.Pipeline.ValueKit
public import Idealize.ShloMosaic.Lib.VecWindow

@[expose] public section

set_option maxRecDepth 16384

noncomputable section

namespace Cert.Proof.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The grid -/

theorem coord1 : ∀ t : Fin grid1.N, ((grid1.coords t) 0).val = t.val := by decide +kernel
theorem first1_iff : ∀ t : Fin grid1.N, Scalar.cmpi .ne (Scalar.extui (Scalar.cmpi .eq (BitVec.ofNat 32 ((grid1.coords t) 0).val) 0#32)) 0#32 = 1#1 ↔ t.val = 0 := by decide +kernel
theorem early1_iff : ∀ t : Fin grid1.N, Scalar.cmpi .ne (Scalar.extui (Scalar.cmpi .slt (BitVec.ofNat 32 ((grid1.coords t) 0).val) 13#32)) 0#32 = 1#1 ↔ t.val < 13 := by decide +kernel
theorem late1_iff : ∀ t : Fin grid1.N, Scalar.cmpi .ne (Scalar.extui (Scalar.cmpi .sge (BitVec.ofNat 32 ((grid1.coords t) 0).val) 13#32)) 0#32 = 1#1 ↔ 13 ≤ t.val := by decide +kernel

/-! ## What the pass leaves -/

variable (V : (c : Dev nD) → (b : Ref sig .tc) → Buf (Elt F) ((c : Thread nD τ).loc b))

/-- Window `w`'s block at point `t`: the array as the pass finds it, read through the block. -/
abbrev iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's 400 rows of the 4-bit adjacency. -/
def qB (c : Dev nD) (t : Fin cfg1.N) : Vec F S1x400x10000 .i4 := iblk1 V c 0 t
/-- The point's rows of the first activation. -/
def aB (c : Dev nD) (t : Fin cfg1.N) : Vec F S400x32 .f32 := iblk1 V c 2 t
/-- The point's rows of the partial product of the first pass. -/
def tpB (c : Dev nD) (t : Fin cfg1.N) : Vec F S400x32 .f32 := iblk1 V c 3 t
/-- The point's rows of the first pass's share of the result. -/
def accB (c : Dev nD) (t : Fin cfg1.N) : Vec F S400x40 .f32 := iblk1 V c 4 t
/-- The support in bf16. -/
def sbV (c : Dev nD) : Vec F S10000x32 .bf16 := k1_pay4 (V c main_v14_2)
/-- The scaled batch-norm factor. -/
def waV (c : Dev nD) : Vec F S1x32 .f32 := k1_pay5 (V c main_v7)
/-- The point's share of the second layer's product that this pass forms: all of it before the thirteenth point, the
    columns from 5120 on from there on. -/
def tqV (c : Dev nD) (t : Fin cfg1.N) : Vec F S400x32 .f32 :=
  if t.val < 13 then k1_pay6 (qB V c t) (sbV V c) else k1_pay7 (qB V c t) (View.ld (sbV V c) rHigh)
/-- The point's rows of the result. -/
def outV (c : Dev nD) (t : Fin cfg1.N) : Vec F S400x40 .f32 :=
  outBlk (tqV V c t) (tpB V c t) (aB V c t) (accB V c t) (V c main_arg13) (V c main_v6) (V c main_v7) (V c main_v8) (V c main_v12) (waV V c)

/-- What the scratch buffers hold before point `t`: the rounded support and the scaled factor once the first point has run. -/
def Φ1 (c : Dev nD) (t : Fin (cfg1.N + 1)) : sProp 𝕄 :=
  iprop((∃ X : Vec F S10000x32 .bf16, ⌜0 < t.val → X = sbV V c⌝ ∗ owns (c : Thread nD τ) (Memref.whole cc1_scratch0) fullShare X)
    ∗ (∃ X : Vec F S1x32 .f32, ⌜0 < t.val → X = waV V c⌝ ∗ owns (c : Thread nD τ) (Memref.whole cc1_scratch1) fullShare X)
    ∗ (∃ X : Vec F S400x32 .f32, owns (c : Thread nD τ) (Memref.whole cc1_scratch2) fullShare X)
    ∗ Pipeline.scopedRestBut (Ix := Unit) (Name := ℕ) (U := UR sig nD τ) (Lvl := ℕ) (Val := Elt F) spec1 c [cc1_scratch0, cc1_scratch1, cc1_scratch2])

/-- The pass's proof data: the arrays as it finds them, each input block left in place, the output block at what the
    point computes. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => outV V c t
    | ⟨_ + 11, h⟩ => absurd h (Nat.not_lt.2 (Nat.le_add_left _ _))
  Φ t := Φ1 V c t
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = outV V c t := by dsimp only [dat1]

/-! Each input's staging buffer holds its block whenever the body runs. -/

theorem before1_0 (c : Dev nD) (t : Fin cfg1.N) (d) : (dat1 V c).before 0 t d = qB V c t :=
  (dat1 V c).before_in_eq_fetched 0 rfl (fun _ => rfl) (fun _ _ _ => rfl) (fun t => by rw [after1_0]; rfl) t d
theorem before1_1 (c : Dev nD) (t : Fin cfg1.N) (d) : (dat1 V c).before 1 t d = iblk1 V c 1 t :=
  (dat1 V c).before_in_eq_fetched 1 rfl (fun _ => rfl) (fun _ _ _ => rfl) (fun t => by rw [after1_1]; rfl) t d
theorem before1_2 (c : Dev nD) (t : Fin cfg1.N) (d) : (dat1 V c).before 2 t d = aB V c t :=
  (dat1 V c).before_in_eq_fetched 2 rfl (fun _ => rfl) (fun _ _ _ => rfl) (fun t => by rw [after1_2]; rfl) t d
theorem before1_3 (c : Dev nD) (t : Fin cfg1.N) (d) : (dat1 V c).before 3 t d = tpB V c t :=
  (dat1 V c).before_in_eq_fetched 3 rfl (fun _ => rfl) (fun _ _ _ => rfl) (fun t => by rw [after1_3]; rfl) t d
theorem before1_4 (c : Dev nD) (t : Fin cfg1.N) (d) : (dat1 V c).before 4 t d = accB V c t :=
  (dat1 V c).before_in_eq_fetched 4 rfl (fun _ => rfl) (fun _ _ _ => rfl) (fun t => by rw [after1_4]; rfl) t d
theorem before1_5 (c : Dev nD) (t : Fin cfg1.N) (d) : (dat1 V c).before 5 t d = iblk1 V c 5 t :=
  (dat1 V c).before_in_eq_fetched 5 rfl (fun _ => rfl) (fun _ _ _ => rfl) (fun t => by rw [after1_5]; rfl) t d
theorem before1_6 (c : Dev nD) (t : Fin cfg1.N) (d) : (dat1 V c).before 6 t d = iblk1 V c 6 t :=
  (dat1 V c).before_in_eq_fetched 6 rfl (fun _ => rfl) (fun _ _ _ => rfl) (fun t => by rw [after1_6]; rfl) t d
theorem before1_7 (c : Dev nD) (t : Fin cfg1.N) (d) : (dat1 V c).before 7 t d = iblk1 V c 7 t :=
  (dat1 V c).before_in_eq_fetched 7 rfl (fun _ => rfl) (fun _ _ _ => rfl) (fun t => by rw [after1_7]; rfl) t d
theorem before1_8 (c : Dev nD) (t : Fin cfg1.N) (d) : (dat1 V c).before 8 t d = iblk1 V c 8 t :=
  (dat1 V c).before_in_eq_fetched 8 rfl (fun _ => rfl) (fun _ _ _ => rfl) (fun t => by rw [after1_8]; rfl) t d
theorem before1_9 (c : Dev nD) (t : Fin cfg1.N) (d) : (dat1 V c).before 9 t d = iblk1 V c 9 t :=
  (dat1 V c).before_in_eq_fetched 9 rfl (fun _ => rfl) (fun _ _ _ => rfl) (fun t => by rw [after1_9]; rfl) t d

/-! A constant window's block is the whole array. -/

theorem iblk1_1 (c : Dev nD) (t : Fin cfg1.N) : iblk1 V c 1 t = V c main_v14_2 := by
  have e : win1_1.index t = ![0, 0] := rfl
  funext y; show V c main_v14_2 ((win1_1.blk t).view.emb y) = V c main_v14_2 y; congr 1; blk_ext [e]
theorem iblk1_5 (c : Dev nD) (t : Fin cfg1.N) : iblk1 V c 5 t = V c main_arg13 := by
  have e : win1_5.index t = ![0, 0] := rfl
  funext y; show V c main_arg13 ((win1_5.blk t).view.emb y) = V c main_arg13 y; congr 1; blk_ext [e]
theorem iblk1_6 (c : Dev nD) (t : Fin cfg1.N) : iblk1 V c 6 t = V c main_v6 := by
  have e : win1_6.index t = ![0, 0] := rfl
  funext y; show V c main_v6 ((win1_6.blk t).view.emb y) = V c main_v6 y; congr 1; blk_ext [e]
theorem iblk1_7 (c : Dev nD) (t : Fin cfg1.N) : iblk1 V c 7 t = V c main_v7 := by
  have e : win1_7.index t = ![0, 0] := rfl
  funext y; show V c main_v7 ((win1_7.blk t).view.emb y) = V c main_v7 y; congr 1; blk_ext [e]
theorem iblk1_8 (c : Dev nD) (t : Fin cfg1.N) : iblk1 V c 8 t = V c main_v8 := by
  have e : win1_8.index t = ![0, 0] := rfl
  funext y; show V c main_v8 ((win1_8.blk t).view.emb y) = V c main_v8 y; congr 1; blk_ext [e]
theorem iblk1_9 (c : Dev nD) (t : Fin cfg1.N) : iblk1 V c 9 t = V c main_v12 := by
  have e : win1_9.index t = ![0, 0] := rfl
  funext y; show V c main_v12 ((win1_9.blk t).view.emb y) = V c main_v12 y; congr 1; blk_ext [e]

/-! ## The body's obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The first point. -/
theorem sound_first1 (c : Dev nD) (t : Fin cfg1.N) (ht : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, after1_0, after1_1, after1_2, after1_3, after1_4, after1_5, after1_6, after1_7, after1_8, after1_9, after1_10]
  rw [iblk1_1, iblk1_5, iblk1_6, iblk1_7, iblk1_8, iblk1_9]
  rw [show (dat1 V c).Φ t.castSucc = Φ1 V c t.castSucc from rfl, show (dat1 V c).Φ t.succ = Φ1 V c t.succ from rfl,
    show (dat1 V c).owesAt () t.succ = (dat1 V c).owesAt () t.castSucc from rfl]
  unfold Φ1
  iintro ⟨⟨⟨%X12, %hX12, H12⟩, ⟨%X13, %hX13, H13⟩, H14, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hq : t.val < 13 := by omega
  have h1 := (first1_iff t).2 ht
  have h2 := (early1_iff t).2 hq
  have h3 : ¬ Scalar.cmpi .ne (Scalar.extui (Scalar.cmpi .sge (BitVec.ofNat 32 ((grid1.coords t) 0).val) 13#32)) 0#32 = 1#1 := fun h => by have := (late1_iff t).1 h; omega
  iapply (pass2_first c (grid1.coords t) h1 h2 h3 _ _ _ _ _ _ _ _ _ _ _ _ _ _ _ _ _ _ _ _ _ _ _ _ _ _ _ _ (qB V c t) (V c main_v14_2) (aB V c t) (tpB V c t) (accB V c t) (V c main_arg13) (V c main_v6) (V c main_v7) (V c main_v8) (V c main_v12) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H12]; · iexists _; iexact H12
  isplitl [H13]; · iexists _; iexact H13
  isplitl [H14]; · iexact H14
  iintro ⟨H0, H1, H2, H3, H4, H5, H6, H7, H8, H9, H10, H12, H13, H14⟩
  isplitl [H12 H13 H14 HR]
  · isplitl [H12]
    · iexists _; isplitr; swap; · iexact H12
      ipureintro; exact fun _ => rfl
    isplitl [H13]
    · iexists _; isplitr; swap; · iexact H13
      ipureintro; exact fun _ => rfl
    isplitl [H14]; · iexact H14
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold outV; rw [show tqV V c t = k1_pay6 (qB V c t) (sbV V c) from if_pos hq]; iexact H10

/-- A later point before the thirteenth. -/
theorem sound_early1 (c : Dev nD) (t : Fin cfg1.N) (h0 : ¬ t.val = 0) (hq : t.val < 13) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, after1_0, after1_1, after1_2, after1_3, after1_4, after1_5, after1_6, after1_7, after1_8, after1_9, after1_10]
  rw [iblk1_1, iblk1_5, iblk1_6, iblk1_7, iblk1_8, iblk1_9]
  rw [show (dat1 V c).Φ t.castSucc = Φ1 V c t.castSucc from rfl, show (dat1 V c).Φ t.succ = Φ1 V c t.succ from rfl,
    show (dat1 V c).owesAt () t.succ = (dat1 V c).owesAt () t.castSucc from rfl]
  unfold Φ1
  iintro ⟨⟨⟨%X12, %hX12, H12⟩, ⟨%X13, %hX13, H13⟩, H14, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hX12 (Nat.pos_of_ne_zero h0)
  obtain rfl := hX13 (Nat.pos_of_ne_zero h0)
  have h1 := fun h => h0 ((first1_iff t).1 h)
  have h2 := (early1_iff t).2 hq
  have h3 : ¬ Scalar.cmpi .ne (Scalar.extui (Scalar.cmpi .sge (BitVec.ofNat 32 ((grid1.coords t) 0).val) 13#32)) 0#32 = 1#1 := fun h => by have := (late1_iff t).1 h; omega
  iapply (pass2_early c (grid1.coords t) h1 h2 h3 _ _ _ _ _ _ _ _ _ _ _ _ _ _ _ _ _ _ _ _ _ _ _ _ _ _ _ _ (qB V c t) (V c main_v14_2) (aB V c t) (tpB V c t) (accB V c t) (V c main_arg13) (V c main_v6) (V c main_v7) (V c main_v8) (V c main_v12) (sbV V c) (waV V c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H12]; · iexact H12
  isplitl [H13]; · iexact H13
  isplitl [H14]; · iexact H14
  iintro ⟨H0, H1, H2, H3, H4, H5, H6, H7, H8, H9, H10, H12, H13, H14⟩
  isplitl [H12 H13 H14 HR]
  · isplitl [H12]
    · iexists _; isplitr; swap; · iexact H12
      ipureintro; exact fun _ => rfl
    isplitl [H13]
    · iexists _; isplitr; swap; · iexact H13
      ipureintro; exact fun _ => rfl
    isplitl [H14]; · iexact H14
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold outV; rw [show tqV V c t = k1_pay6 (qB V c t) (sbV V c) from if_pos hq]; iexact H10

/-- A point from the thirteenth on. -/
theorem sound_late1 (c : Dev nD) (t : Fin cfg1.N) (ht : 13 ≤ t.val) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, after1_0, after1_1, after1_2, after1_3, after1_4, after1_5, after1_6, after1_7, after1_8, after1_9, after1_10]
  rw [iblk1_1, iblk1_5, iblk1_6, iblk1_7, iblk1_8, iblk1_9]
  rw [show (dat1 V c).Φ t.castSucc = Φ1 V c t.castSucc from rfl, show (dat1 V c).Φ t.succ = Φ1 V c t.succ from rfl,
    show (dat1 V c).owesAt () t.succ = (dat1 V c).owesAt () t.castSucc from rfl]
  unfold Φ1
  iintro ⟨⟨⟨%X12, %hX12, H12⟩, ⟨%X13, %hX13, H13⟩, H14, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hq : ¬ t.val < 13 := by omega
  obtain rfl := hX12 (by show 0 < t.val; omega)
  obtain rfl := hX13 (by show 0 < t.val; omega)
  have h1 : ¬ Scalar.cmpi .ne (Scalar.extui (Scalar.cmpi .eq (BitVec.ofNat 32 ((grid1.coords t) 0).val) 0#32)) 0#32 = 1#1 := fun h => by have := (first1_iff t).1 h; omega
  have h2 : ¬ Scalar.cmpi .ne (Scalar.extui (Scalar.cmpi .slt (BitVec.ofNat 32 ((grid1.coords t) 0).val) 13#32)) 0#32 = 1#1 := fun h => hq ((early1_iff t).1 h)
  have h3 := (late1_iff t).2 ht
  iapply (pass2_late c (grid1.coords t) h1 h2 h3 _ _ _ _ _ _ _ _ _ _ _ _ _ _ _ _ _ _ _ _ _ _ _ _ _ _ _ _ (qB V c t) (V c main_v14_2) (aB V c t) (tpB V c t) (accB V c t) (V c main_arg13) (V c main_v6) (V c main_v7) (V c main_v8) (V c main_v12) (sbV V c) (waV V c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H12]; · iexact H12
  isplitl [H13]; · iexact H13
  isplitl [H14]; · iexact H14
  iintro ⟨H0, H1, H2, H3, H4, H5, H6, H7, H8, H9, H10, H12, H13, H14⟩
  isplitl [H12 H13 H14 HR]
  · isplitl [H12]
    · iexists _; isplitr; swap; · iexact H12
      ipureintro; exact fun _ => rfl
    isplitl [H13]
    · iexists _; isplitr; swap; · iexact H13
      ipureintro; exact fun _ => rfl
    isplitl [H14]; · iexact H14
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold outV; rw [show tqV V c t = k1_pay7 (qB V c t) (View.ld (sbV V c) rHigh) from if_neg hq]; iexact H10

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val = 0
  · exact sound_first1 V c t h0
  by_cases h : t.val < 13
  · exact sound_early1 V c t h0 h
  · exact sound_late1 V c t (by omega)

/-- The body table's row at point `t`'s slots is the body as `bodyAt1` spells it. -/
theorem row1 (t : Fin cfg1.N) : defs₀ (F := F) .tc cfg1.body (cfg1.bodyArgs t (cfg1.slots t)) = bodyAt1 t := by
  unfold defs₀; rw [Defs.onTc_tc]

/-- The body's obligation at every point. -/
theorem obligation1 (c : Dev nD) : BodyObligation (dat1 V c) (defs₀ (F := F)) Variants.none () Set.univ := fun t => by
  rw [bigSep_W1, bigSep_W1, row1]
  exact triple_restated (sound_body1 V c t) rfl .rfl fun _ => .rfl

end Cert.Proof.Passes

end
-- ==== Proof.Run.lean ====
/-
  The run of the whole program: the host's reshapes and slices, the first pass, the second pass. Every execution ends,
  leaves the arguments as they were and every counter at zero, and leaves the result named here.
-/
module

public import proofs.«01_k».proof.Proof.Pass1Region
public import proofs.«01_k».proof.Proof.Pass2Region
public import proofs.«01_k».proof.Proof.Gen.KernelIdeal.Regions
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.FrameBody
public import Idealize.ShloMosaic.Lib.Pipeline.Value
public import Idealize.ShloMosaic.Lib.Pipeline.Regions
public import Idealize.ShloMosaic.Lib.Pipeline.ValueKit
public import Idealize.ShloMosaic.Lib.VecWindow

@[expose] public section

set_option maxRecDepth 16384

noncomputable section

namespace Cert.Proof.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

/-! ## The buffers between the items -/

variable (m : (ℓ : Loc nD τ sig) → Buf (Elt F) ℓ)

/-- The buffers as the first pass finds them: the host has reshaped, joined and sliced the parameters. -/
abbrev Va (c : Dev nD) (b : Ref sig .tc) : Buf (Elt F) ((c : Thread nD τ).loc b) := V1 m c b

/-- The first pass's five arrays put over the buffers it found. -/
def left0 (c : Dev nD) : Valuation τ sig (Elt F) :=
  Function.update (Function.update (Function.update (Function.update (Function.update (V1 m c) main_v14_0 ((dat0 (Va m) c).arrAt 15 cfg0.N)) main_v14_1 ((dat0 (Va m) c).arrAt 16 cfg0.N)) main_v14_2 ((dat0 (Va m) c).arrAt 17 cfg0.N)) main_v14_3 ((dat0 (Va m) c).arrAt 18 cfg0.N)) main_v14_4 ((dat0 (Va m) c).arrAt 19 cfg0.N)

/-- What the first pass leaves in its arrays. -/
def outsA : Outs (F := F) := fun _ r c => left0 m c r

/-- The buffers as the second pass finds them. -/
abbrev Vb (c : Dev nD) (b : Ref sig .tc) : Buf (Elt F) ((c : Thread nD τ).loc b) := V2 m (outsA m) c b

/-- What the two passes leave in the arrays they write. -/
def outs : Outs (F := F) := fun J r c =>
  if J = 2 then left0 m c r else Function.update (V2 m (outsA m) c) main_v15 ((dat1 (Vb m) c).arrAt 10 cfg1.N) r

theorem outs_two (r : Ref sig .tc) (c : Dev nD) : outs m 2 r c = left0 m c r := if_pos rfl
theorem outs_three (r : Ref sig .tc) (c : Dev nD) :
    outs m 3 r c = Function.update (V2 m (outsA m) c) main_v15 ((dat1 (Vb m) c).arrAt 10 cfg1.N) r := if_neg (by decide)

/-- The buffers at the end. -/
abbrev Vc (c : Dev nD) (b : Ref sig .tc) : Buf (Elt F) ((c : Thread nD τ).loc b) := V3 m (outs m) c b

theorem V2_outs (c : Dev nD) : V2 m (outs m) c = V2 m (outsA m) c := by
  unfold V2; rw [outs_two, outs_two, outs_two, outs_two, outs_two]; rfl

theorem left0_0 (c : Dev nD) : left0 m c main_v14_0 = (dat0 (Va m) c).arrAt 15 cfg0.N := by
  unfold left0; simp only [Function.update_self, Function.update_of_ne (StableHlo.devRef_ne_of_ne (by decide) : (Proc.devRef .tc main_v14_0 : DevRef τ sig) ≠ Proc.devRef .tc main_v14_1), Function.update_of_ne (StableHlo.devRef_ne_of_ne (by decide) : (Proc.devRef .tc main_v14_0 : DevRef τ sig) ≠ Proc.devRef .tc main_v14_2), Function.update_of_ne (StableHlo.devRef_ne_of_ne (by decide) : (Proc.devRef .tc main_v14_0 : DevRef τ sig) ≠ Proc.devRef .tc main_v14_3), Function.update_of_ne (StableHlo.devRef_ne_of_ne (by decide) : (Proc.devRef .tc main_v14_0 : DevRef τ sig) ≠ Proc.devRef .tc main_v14_4)]
theorem Vb_0 (c : Dev nD) : Vb m c main_v14_0 = (dat0 (Va m) c).arrAt 15 cfg0.N := by
  refine Eq.trans ?_ (left0_0 m c)
  unfold Vb V2; simp only [Function.update_self, Function.update_of_ne (StableHlo.devRef_ne_of_ne (by decide) : (Proc.devRef .tc main_v14_0 : DevRef τ sig) ≠ Proc.devRef .tc main_v14_1), Function.update_of_ne (StableHlo.devRef_ne_of_ne (by decide) : (Proc.devRef .tc main_v14_0 : DevRef τ sig) ≠ Proc.devRef .tc main_v14_2), Function.update_of_ne (StableHlo.devRef_ne_of_ne (by decide) : (Proc.devRef .tc main_v14_0 : DevRef τ sig) ≠ Proc.devRef .tc main_v14_3), Function.update_of_ne (StableHlo.devRef_ne_of_ne (by decide) : (Proc.devRef .tc main_v14_0 : DevRef τ sig) ≠ Proc.devRef .tc main_v14_4)]; rfl
theorem left0_1 (c : Dev nD) : left0 m c main_v14_1 = (dat0 (Va m) c).arrAt 16 cfg0.N := by
  unfold left0; simp only [Function.update_self, Function.update_of_ne (StableHlo.devRef_ne_of_ne (by decide) : (Proc.devRef .tc main_v14_1 : DevRef τ sig) ≠ Proc.devRef .tc main_v14_2), Function.update_of_ne (StableHlo.devRef_ne_of_ne (by decide) : (Proc.devRef .tc main_v14_1 : DevRef τ sig) ≠ Proc.devRef .tc main_v14_3), Function.update_of_ne (StableHlo.devRef_ne_of_ne (by decide) : (Proc.devRef .tc main_v14_1 : DevRef τ sig) ≠ Proc.devRef .tc main_v14_4)]
theorem Vb_1 (c : Dev nD) : Vb m c main_v14_1 = (dat0 (Va m) c).arrAt 16 cfg0.N := by
  refine Eq.trans ?_ (left0_1 m c)
  unfold Vb V2; simp only [Function.update_self, Function.update_of_ne (StableHlo.devRef_ne_of_ne (by decide) : (Proc.devRef .tc main_v14_1 : DevRef τ sig) ≠ Proc.devRef .tc main_v14_2), Function.update_of_ne (StableHlo.devRef_ne_of_ne (by decide) : (Proc.devRef .tc main_v14_1 : DevRef τ sig) ≠ Proc.devRef .tc main_v14_3), Function.update_of_ne (StableHlo.devRef_ne_of_ne (by decide) : (Proc.devRef .tc main_v14_1 : DevRef τ sig) ≠ Proc.devRef .tc main_v14_4)]; rfl
theorem left0_2 (c : Dev nD) : left0 m c main_v14_2 = (dat0 (Va m) c).arrAt 17 cfg0.N := by
  unfold left0; simp only [Function.update_self, Function.update_of_ne (StableHlo.devRef_ne_of_ne (by decide) : (Proc.devRef .tc main_v14_2 : DevRef τ sig) ≠ Proc.devRef .tc main_v14_3), Function.update_of_ne (StableHlo.devRef_ne_of_ne (by decide) : (Proc.devRef .tc main_v14_2 : DevRef τ sig) ≠ Proc.devRef .tc main_v14_4)]
theorem Vb_2 (c : Dev nD) : Vb m c main_v14_2 = (dat0 (Va m) c).arrAt 17 cfg0.N := by
  refine Eq.trans ?_ (left0_2 m c)
  unfold Vb V2; simp only [Function.update_self, Function.update_of_ne (StableHlo.devRef_ne_of_ne (by decide) : (Proc.devRef .tc main_v14_2 : DevRef τ sig) ≠ Proc.devRef .tc main_v14_3), Function.update_of_ne (StableHlo.devRef_ne_of_ne (by decide) : (Proc.devRef .tc main_v14_2 : DevRef τ sig) ≠ Proc.devRef .tc main_v14_4)]; rfl
theorem left0_3 (c : Dev nD) : left0 m c main_v14_3 = (dat0 (Va m) c).arrAt 18 cfg0.N := by
  unfold left0; simp only [Function.update_self, Function.update_of_ne (StableHlo.devRef_ne_of_ne (by decide) : (Proc.devRef .tc main_v14_3 : DevRef τ sig) ≠ Proc.devRef .tc main_v14_4)]
theorem Vb_3 (c : Dev nD) : Vb m c main_v14_3 = (dat0 (Va m) c).arrAt 18 cfg0.N := by
  refine Eq.trans ?_ (left0_3 m c)
  unfold Vb V2; simp only [Function.update_self, Function.update_of_ne (StableHlo.devRef_ne_of_ne (by decide) : (Proc.devRef .tc main_v14_3 : DevRef τ sig) ≠ Proc.devRef .tc main_v14_4)]; rfl
theorem left0_4 (c : Dev nD) : left0 m c main_v14_4 = (dat0 (Va m) c).arrAt 19 cfg0.N := by
  unfold left0; simp only [Function.update_self]
theorem Vb_4 (c : Dev nD) : Vb m c main_v14_4 = (dat0 (Va m) c).arrAt 19 cfg0.N := by
  refine Eq.trans ?_ (left0_4 m c)
  unfold Vb V2; simp only [Function.update_self]; rfl
theorem Vc_out (c : Dev nD) : Vc m c main_v15 = (dat1 (Vb m) c).arrAt 10 cfg1.N := by
  unfold Vc V3; rw [Function.update_self, outs_three, Function.update_self]

theorem Vb_of (c : Dev nD) (r : Ref sig .tc) (h : r ∉ ([main_v14_0, main_v14_1, main_v14_2, main_v14_3, main_v14_4] : List (Ref sig .tc))) :
    Vb m c r = Va m c r := V2_of m (outsA m) c r h
theorem Vc_of (c : Dev nD) (r : Ref sig .tc) (h : r ∉ ([main_v15] : List (Ref sig .tc))) : Vc m c r = Vb m c r :=
  (V3_of m (outs m) c r h).trans (congrFun (V2_outs m c) _)

/-! ## The two passes as segments -/

/-- Nothing is owed between cores: no level is assigned. -/
abbrev L₀ : GSem nD τ sig → Finset Unit := fun _ => ∅
abbrev lv₀ : GSem nD τ sig → Unit → ℕ := fun _ _ => 0

/-- The two passes' proof data. -/
def pdats (Va Vb : (c : Dev nD) → (b : Ref sig .tc) → Buf (Elt F) ((c : Thread nD τ).loc b)) : (p : Fin 2) → (c : Dev nD) → Dat τ (Elt F) Unit ℕ (UR sig nD τ) ℕ (cfgs p) c
  | ⟨0, _⟩ => fun c => dat0 Va c
  | ⟨1, _⟩ => fun c => dat1 Vb c

/-- What rides along beside the buffers: the core owes nothing. -/
abbrev rest (c : Dev nD) : sProp 𝕄 := iprop(∃ W, owes (c : Thread nD τ) (0 : CellTallies nD τ sig Unit) W)

/-- The scoped buffers the pass does not stage: its own scratch, and the rest. -/
theorem split0 (c : Dev nD) : (Pipeline.scopedRest (Ix := Unit) (Name := ℕ) (U := UR sig nD τ) (Lvl := ℕ) (Val := Elt F) spec0 c : sProp 𝕄)
    = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
      ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- The scoped buffers the pass does not stage: its own scratch, and the rest. -/
theorem split1 (c : Dev nD) : (Pipeline.scopedRest (Ix := Unit) (Name := ℕ) (U := UR sig nD τ) (Lvl := ℕ) (Val := Elt F) spec1 c : sProp 𝕄)
    = iprop(((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch2), ((c : Thread nD τ).loc cc1_scratch2) ↦{fullShare} f))
      ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

/-- What the pass's arrays hold when it ends. -/
theorem exit0 (Va Vb : (c : Dev nD) → (b : Ref sig .tc) → Buf (Elt F) ((c : Thread nD τ).loc b))
    (ho0 : ∀ c, Vb c main_v14_0 = (dat0 Va c).arrAt 15 cfg0.N)
    (ho1 : ∀ c, Vb c main_v14_1 = (dat0 Va c).arrAt 16 cfg0.N)
    (ho2 : ∀ c, Vb c main_v14_2 = (dat0 Va c).arrAt 17 cfg0.N)
    (ho3 : ∀ c, Vb c main_v14_3 = (dat0 Va c).arrAt 18 cfg0.N)
    (ho4 : ∀ c, Vb c main_v14_4 = (dat0 Va c).arrAt 19 cfg0.N)
    (hne : ∀ c (r : Ref sig .tc), r ∉ ([main_v14_0, main_v14_1, main_v14_2, main_v14_3, main_v14_4] : List (Ref sig .tc)) → Vb c r = Va c r) (c : Dev nD) : ∀ w : Fin cfg0.W, (dat0 Va c).arrAt w cfg0.N = Vb c (Pipeline.arrRef spec0 w) := by
  intro w
  by_cases h : (cfg0.win w).isOut = false
  · exact ((dat0 Va c).arrAt_in w h _).trans (hne c (Pipeline.arrRef spec0 w)
      ((by decide +kernel : ∀ w : Fin cfg0.W, (cfg0.win w).isOut = false → Pipeline.arrRef spec0 w ∉ ([main_v14_0, main_v14_1, main_v14_2, main_v14_3, main_v14_4] : List (Ref sig .tc))) w h)).symm
  · have h' : w = 15 ∨ w = 16 ∨ w = 17 ∨ w = 18 ∨ w = 19 := (by decide +kernel : ∀ w : Fin cfg0.W, ¬ (cfg0.win w).isOut = false → w = 15 ∨ w = 16 ∨ w = 17 ∨ w = 18 ∨ w = 19) w h
    rcases h' with rfl | rfl | rfl | rfl | rfl
    · exact (ho0 c).symm
    · exact (ho1 c).symm
    · exact (ho2 c).symm
    · exact (ho3 c).symm
    · exact (ho4 c).symm

set_option backward.isDefEq.respectTransparency.types false in
/-- The first pass: entered with the buffers as the host left them, left with its five arrays written. -/
def reg0 (Va Vb : (c : Dev nD) → (b : Ref sig .tc) → Buf (Elt F) ((c : Thread nD τ).loc b))
    (ho0 : ∀ c, Vb c main_v14_0 = (dat0 Va c).arrAt 15 cfg0.N)
    (ho1 : ∀ c, Vb c main_v14_1 = (dat0 Va c).arrAt 16 cfg0.N)
    (ho2 : ∀ c, Vb c main_v14_2 = (dat0 Va c).arrAt 17 cfg0.N)
    (ho3 : ∀ c, Vb c main_v14_3 = (dat0 Va c).arrAt 18 cfg0.N)
    (ho4 : ∀ c, Vb c main_v14_4 = (dat0 Va c).arrAt 19 cfg0.N)
    (hne : ∀ c (r : Ref sig .tc), r ∉ ([main_v14_0, main_v14_1, main_v14_2, main_v14_3, main_v14_4] : List (Ref sig .tc)) → Vb c r = Va c r) : RegionSeg (pcfgs (F := F)) adm (pdats Va Vb) () defs₀ Variants.none L₀ lv₀ 0 where
  win := launch0.win.to₀
  block_pos := launch0.block_pos
  stage_whole := launch0.stage_whole
  K := PEmpty
  osem k := k.elim
  ho := Pipeline.OwnSemFacts.none _
  hbody c := (obligation0 Va c).loose
  hwaits := Pipeline.hwaits_of_owed_zero _ _ _ _ L₀ lv₀ 0 fun _ _ => rfl
  pre c := iprop(unscopedBufs c (Va c) ∗ rest c)
  post c := iprop(unscopedBufs c (Vb c) ∗ rest c)
  X _ := BI.emp
  Y _ := BI.emp
  Z c := Pipeline.unscopedRest (Ix := Unit) (Name := ℕ) (U := UR sig nD τ) (Lvl := ℕ) spec0 c (Va c)
  hentry c := by
    rw [Pipeline.ownSems0_none]
    have hsplit := Pipeline.arrays_of_unscopedBufs (p := 0) (pcfgs (F := F)) adm (pdats Va Vb) launch0.win launch0.arr_whole c
      ((pdats Va Vb 0 c).share_full fun _ => rfl) (Va c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 0 c).Φ 0 = Φ0 Va c 0 from rfl]
    unfold Φ0; simp only [owns_whole]; rw [show (Pipeline.scopedRest (Ix := Unit) (Name := ℕ) (U := UR sig nD τ) (Lvl := ℕ) (Val := Elt F) (Pipeline.pin (pcfgs (F := F)) adm 0).spec c : sProp 𝕄) = _ from split0 c]
    iintro ⟨-, -, Hr⟩
    icases Hr with ⟨H, HR⟩
    icases H with ⟨⟨%f0, H0⟩, ⟨%f1, H1⟩⟩
    isplitl [H0]
    · iexists f0; isplitr; · ipureintro; exact fun h => absurd h (Nat.lt_irrefl 0)
      iexact H0
    isplitl [H1]
    · iexists f1; isplitr; · ipureintro; exact fun y h => absurd h (Nat.not_lt_zero _)
      iexact H1
    iexact HR
  hout c := by
    rw [Pipeline.ownSems0_none, show (pdats Va Vb 0 c).Φ (Fin.last _) = Φ0 Va c (Fin.last _) from rfl]
    unfold Φ0; simp only [owns_whole]; rw [show (Pipeline.scopedRest (Ix := Unit) (Name := ℕ) (U := UR sig nD τ) (Lvl := ℕ) (Val := Elt F) (Pipeline.pin (pcfgs (F := F)) adm 0).spec c : sProp 𝕄) = _ from split0 c]
    iintro ⟨⟨%f0, -, H0⟩, ⟨%f1, -, H1⟩, HR⟩
    isplitr; · iempintro
    isplitr; · iempintro
    isplitr [HR]; swap; · iexact HR
    isplitl [H0]; · iexists f0; iexact H0
    iexists f1; iexact H1
  hexit c := by
    have hjoin := Pipeline.unscopedBufs_of_arrays (p := 0) (pcfgs (F := F)) adm (Ix := Unit) (Name := ℕ) (U := UR sig nD τ) (Lvl := ℕ) launch0.win launch0.arr_whole c
      (pdats Va Vb) ((pdats Va Vb 0 c).share_full fun _ => rfl) (Va c) (Vb c) ((pdats Va Vb 0 c).arrAt · cfg0.N)
      (exit0 Va Vb ho0 ho1 ho2 ho3 ho4 hne c)
      (fun b hb => hne c b fun h => by
        simp only [List.mem_cons, List.mem_nil_iff, or_false] at h
        rcases h with rfl | rfl | rfl | rfl | rfl
        · exact hb (Finset.mem_image.mpr ⟨15, Finset.mem_univ _, rfl⟩)
        · exact hb (Finset.mem_image.mpr ⟨16, Finset.mem_univ _, rfl⟩)
        · exact hb (Finset.mem_image.mpr ⟨17, Finset.mem_univ _, rfl⟩)
        · exact hb (Finset.mem_image.mpr ⟨18, Finset.mem_univ _, rfl⟩)
        · exact hb (Finset.mem_image.mpr ⟨19, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- What the pass's arrays hold when it ends. -/
theorem exit1 (Va Vb Vc : (c : Dev nD) → (b : Ref sig .tc) → Buf (Elt F) ((c : Thread nD τ).loc b))
    (hout : ∀ c, Vc c main_v15 = (dat1 Vb c).arrAt 10 cfg1.N)
    (hne : ∀ c (r : Ref sig .tc), r ∉ ([main_v15] : List (Ref sig .tc)) → Vc c r = Vb c r) (c : Dev nD) : ∀ w : Fin cfg1.W, (dat1 Vb c).arrAt w cfg1.N = Vc c (Pipeline.arrRef spec1 w) := by
  intro w
  by_cases h : (cfg1.win w).isOut = false
  · exact ((dat1 Vb c).arrAt_in w h _).trans (hne c (Pipeline.arrRef spec1 w)
      ((by decide +kernel : ∀ w : Fin cfg1.W, (cfg1.win w).isOut = false → Pipeline.arrRef spec1 w ∉ ([main_v15] : List (Ref sig .tc))) w h)).symm
  · have h' : w = 10 := (by decide +kernel : ∀ w : Fin cfg1.W, ¬ (cfg1.win w).isOut = false → w = 10) w h
    rcases h' with rfl
    exact (hout c).symm

set_option backward.isDefEq.respectTransparency.types false in
/-- The second pass: entered with the buffers as the first left them, left with the result written. -/
def reg1 (Va Vb Vc : (c : Dev nD) → (b : Ref sig .tc) → Buf (Elt F) ((c : Thread nD τ).loc b))
    (hout : ∀ c, Vc c main_v15 = (dat1 Vb c).arrAt 10 cfg1.N)
    (hne : ∀ c (r : Ref sig .tc), r ∉ ([main_v15] : List (Ref sig .tc)) → Vc c r = Vb c r) : RegionSeg (pcfgs (F := F)) adm (pdats Va Vb) () defs₀ Variants.none L₀ lv₀ 1 where
  win := launch1.win.to₀
  block_pos := launch1.block_pos
  stage_whole := launch1.stage_whole
  K := PEmpty
  osem k := k.elim
  ho := Pipeline.OwnSemFacts.none _
  hbody c := (obligation1 Vb c).loose
  hwaits := Pipeline.hwaits_of_owed_zero _ _ _ _ L₀ lv₀ 1 fun _ _ => rfl
  pre c := iprop(unscopedBufs c (Vb c) ∗ rest c)
  post c := iprop(unscopedBufs c (Vc c) ∗ rest c)
  X _ := BI.emp
  Y _ := BI.emp
  Z c := Pipeline.unscopedRest (Ix := Unit) (Name := ℕ) (U := UR sig nD τ) (Lvl := ℕ) spec1 c (Vb c)
  hentry c := by
    rw [Pipeline.ownSems0_none]
    have hsplit := Pipeline.arrays_of_unscopedBufs (p := 1) (pcfgs (F := F)) adm (pdats Va Vb) launch1.win launch1.arr_whole c
      ((pdats Va Vb 1 c).share_full fun _ => rfl) (Vb c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 1 c).Φ 0 = Φ1 Vb c 0 from rfl]
    unfold Φ1; simp only [owns_whole]; rw [show (Pipeline.scopedRest (Ix := Unit) (Name := ℕ) (U := UR sig nD τ) (Lvl := ℕ) (Val := Elt F) (Pipeline.pin (pcfgs (F := F)) adm 1).spec c : sProp 𝕄) = _ from split1 c]
    iintro ⟨-, -, Hr⟩
    icases Hr with ⟨H, HR⟩
    icases H with ⟨⟨%f0, H0⟩, ⟨%f1, H1⟩, ⟨%f2, H2⟩⟩
    isplitl [H0]
    · iexists f0; isplitr; · ipureintro; exact fun h => absurd h (Nat.lt_irrefl 0)
      iexact H0
    isplitl [H1]
    · iexists f1; isplitr; · ipureintro; exact fun h => absurd h (Nat.lt_irrefl 0)
      iexact H1
    isplitl [H2]; · iexists f2; iexact H2
    iexact HR
  hout c := by
    rw [Pipeline.ownSems0_none, show (pdats Va Vb 1 c).Φ (Fin.last _) = Φ1 Vb c (Fin.last _) from rfl]
    unfold Φ1; simp only [owns_whole]; rw [show (Pipeline.scopedRest (Ix := Unit) (Name := ℕ) (U := UR sig nD τ) (Lvl := ℕ) (Val := Elt F) (Pipeline.pin (pcfgs (F := F)) adm 1).spec c : sProp 𝕄) = _ from split1 c]
    iintro ⟨⟨%f0, -, H0⟩, ⟨%f1, -, H1⟩, ⟨%f2, H2⟩, HR⟩
    isplitr; · iempintro
    isplitr; · iempintro
    isplitr [HR]; swap; · iexact HR
    isplitl [H0]; · iexists f0; iexact H0
    isplitl [H1]; · iexists f1; iexact H1
    iexists f2; iexact H2
  hexit c := by
    have hjoin := Pipeline.unscopedBufs_of_arrays (p := 1) (pcfgs (F := F)) adm (Ix := Unit) (Name := ℕ) (U := UR sig nD τ) (Lvl := ℕ) launch1.win launch1.arr_whole c
      (pdats Va Vb) ((pdats Va Vb 1 c).share_full fun _ => rfl) (Vb c) (Vc c) ((pdats Va Vb 1 c).arrAt · cfg1.N)
      (exit1 Va Vb Vc hout hne c)
      (fun b hb => hne c b fun h => by
        rw [List.mem_singleton] at h; subst h
        exact hb (Finset.mem_image.mpr ⟨10, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

variable (ρ : Dev nD → PrngReg)

set_option backward.isDefEq.respectTransparency.types false in
/-- Every execution ends with the result array at what the second pass writes, the arguments as launched, and every
    semaphore counter at zero. -/
theorem run_main :
    θ_run defs (onTc (τ := τ) (main (F := F))) ⟨m, fun _ => 0, ρ⟩ (fun r => (∀ c : Dev nD,
      r.2.mem ((c.tc : Thread nD τ).loc main_v15) = (dat1 (Vb m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) := by
  refine Pipeline.θ_run_regions_kit_dev_sems (pcfgs (F := F)) adm (pdats (Va m) (Vb m)) () cellOf_inj
    (emb₁ : Emb (UR sig nD τ) 𝕄) defs₀ Variants.none L₀ lv₀ m ρ main
    (segs m Variants.none L₀ lv₀ (fun _ c => rest c) () (pdats (Va m) (Vb m)) (reg0 (Va m) (Vb m) (Vb_0 m) (Vb_1 m) (Vb_2 m) (Vb_3 m) (Vb_4 m) (Vb_of m)) (reg1 (Va m) (Vb m) (Vc m) (Vc_out m) (Vc_of m)))
    (fun c Q => by
      rewrite [main_chain c, Seg.run_eq_chain,
        show (segs m Variants.none L₀ lv₀ (fun _ c => rest c) () (pdats (Va m) (Vb m)) (reg0 (Va m) (Vb m) (Vb_0 m) (Vb_1 m) (Vb_2 m) (Vb_3 m) (Vb_4 m) (Vb_of m)) (reg1 (Va m) (Vb m) (Vc m) (Vc_out m) (Vc_of m)) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun _ _ => rfl) (fun _ => BI.emp) (initOf (Pipeline.cells cfgs cellOf_inj) (Pipeline.launchToks cfgs cellOf_inj)) ?hu
    (T₀ := fun c => iprop(StableHlo.held (c : Thread nD τ) (Pipeline.ucRefs τ sig) (V0 m c) ∗ rest c))
    (Tₙ := fun c => StableHlo.held (c : Thread nD τ) (Pipeline.ucRefs τ sig) (V3 m (outs m) c))
    (hch := fun c => ⟨.rfl, ?pre0, ?mid, ?post1⟩)
    (hinit := ?init) (QY := fun c s => s.mem ((c.tc : Thread nD τ).loc main_v15) = (dat1 (Vb m) c).arrAt 10 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18))
    (hfin := fun c s' => ?fin) (hQ := fun _ h hz => ⟨h, funext fun g => hz g (.inr (regions_no_unscoped g.2))⟩)
  case hu =>
    iintro Hu
    imodintro
    isplitl [Hu]; · rw [← ownU_emb₁]; iexact Hu
    iapply (show (BI.emp : sProp 𝕄) ⊢ bigSep Finset.univ (fun _ : Dev nD => (BI.emp : sProp 𝕄)) from by rw [BI.bigSep_emp_const])
    iempintro
  case pre0 =>
    show iprop(StableHlo.held (c : Thread nD τ) (Pipeline.ucRefs τ sig) (V1 m c) ∗ rest c) ⊢ iprop(unscopedBufs c (Va m c) ∗ rest c)
    rw [← Pipeline.unscopedBufs_held (Ix := Unit) (Name := ℕ) (U := UR sig nD τ) (Lvl := ℕ) c (V1 m c)]
  case mid => exact .rfl
  case post1 =>
    show iprop(unscopedBufs c (Vc m c) ∗ rest c) ⊢ iprop(StableHlo.held (c : Thread nD τ) (Pipeline.ucRefs τ sig) (V3 m (outs m) c) ∗ rest c)
    rw [← Pipeline.unscopedBufs_held (Ix := Unit) (Name := ℕ) (U := UR sig nD τ) (Lvl := ℕ) c (V3 m (outs m) c)]
  case init =>
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ rest c) : sProp 𝕄) := by
      refine bigSep_mono fun c _ => ?_
      rw [← Pipeline.unscopedBufs_held (Ix := Unit) (Name := ℕ) (U := UR sig nD τ) (Lvl := ℕ) c (V0 m c)]
      show iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)
        ⊢ iprop(unscopedBufs c (fun b => m ((c.tc : Thread nD τ).loc b)) ∗ rest c)
      iintro ⟨Hb, -, HO, -⟩
      isplitl [Hb]; · iexact Hb
      iexists ∅; iexact HO
    iintro ⟨H, -⟩
    imodintro
    iapply hsplit; iexact H
  case fin =>
    unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v15) (Finset.mem_filter.mpr ⟨StableHlo.devRef_mem_tcRefs main_v15, by decide⟩)).trans (Vc_out m c),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c),
        (h (Proc.devRef .tc main_arg5) (Finset.mem_filter.mpr ⟨StableHlo.devRef_mem_tcRefs main_arg5, by decide⟩)).trans (V3_main_arg5 m (outs m) c),
        (h (Proc.devRef .tc main_arg6) (Finset.mem_filter.mpr ⟨StableHlo.devRef_mem_tcRefs main_arg6, by decide⟩)).trans (V3_main_arg6 m (outs m) c),
        (h (Proc.devRef .tc main_arg7) (Finset.mem_filter.mpr ⟨StableHlo.devRef_mem_tcRefs main_arg7, by decide⟩)).trans (V3_main_arg7 m (outs m) c),
        (h (Proc.devRef .tc main_arg8) (Finset.mem_filter.mpr ⟨StableHlo.devRef_mem_tcRefs main_arg8, by decide⟩)).trans (V3_main_arg8 m (outs m) c),
        (h (Proc.devRef .tc main_arg9) (Finset.mem_filter.mpr ⟨StableHlo.devRef_mem_tcRefs main_arg9, by decide⟩)).trans (V3_main_arg9 m (outs m) c),
        (h (Proc.devRef .tc main_arg10) (Finset.mem_filter.mpr ⟨StableHlo.devRef_mem_tcRefs main_arg10, by decide⟩)).trans (V3_main_arg10 m (outs m) c),
        (h (Proc.devRef .tc main_arg11) (Finset.mem_filter.mpr ⟨StableHlo.devRef_mem_tcRefs main_arg11, by decide⟩)).trans (V3_main_arg11 m (outs m) c),
        (h (Proc.devRef .tc main_arg12) (Finset.mem_filter.mpr ⟨StableHlo.devRef_mem_tcRefs main_arg12, by decide⟩)).trans (V3_main_arg12 m (outs m) c),
        (h (Proc.devRef .tc main_arg13) (Finset.mem_filter.mpr ⟨StableHlo.devRef_mem_tcRefs main_arg13, by decide⟩)).trans (V3_main_arg13 m (outs m) c),
        (h (Proc.devRef .tc main_arg14) (Finset.mem_filter.mpr ⟨StableHlo.devRef_mem_tcRefs main_arg14, by decide⟩)).trans (V3_main_arg14 m (outs m) c),
        (h (Proc.devRef .tc main_arg15) (Finset.mem_filter.mpr ⟨StableHlo.devRef_mem_tcRefs main_arg15, by decide⟩)).trans (V3_main_arg15 m (outs m) c),
        (h (Proc.devRef .tc main_arg16) (Finset.mem_filter.mpr ⟨StableHlo.devRef_mem_tcRefs main_arg16, by decide⟩)).trans (V3_main_arg16 m (outs m) c),
        (h (Proc.devRef .tc main_arg17) (Finset.mem_filter.mpr ⟨StableHlo.devRef_mem_tcRefs main_arg17, by decide⟩)).trans (V3_main_arg17 m (outs m) c),
        (h (Proc.devRef .tc main_arg18) (Finset.mem_filter.mpr ⟨StableHlo.devRef_mem_tcRefs main_arg18, by decide⟩)).trans (V3_main_arg18 m (outs m) c)⟩
    · iexact HSI

end Cert.Proof.Passes

end
-- ==== Proof.Frames.lean ====
/-
  The frames: what the run says of the arguments and the counters. The kernel's two programs have the same text but for
  the named constants, which at the bits are their words, so one run serves both.
-/
module

public import proofs.«01_k».proof.Defs
public import proofs.«01_k».proof.Proof.Gen.Kernel
public import proofs.«01_k».proof.Proof.Run

@[expose] public section

set_option maxRecDepth 16384

noncomputable section

namespace Cert.Proof

open Idealize.ShloMosaic Idealize.ShloMosaic.TcCoe Idealize.SL.Sem

/-- At the bits a named constant is the word it names. -/
@[reducible] def bitsNamed : Named Bits where
  named _ _ {_} b := FloatOps.ofBits _ b

theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Passes.run_main (F := Ideal) m ρ)

/-! ## The two texts are one at the bits -/

set_option maxHeartbeats 8000000

theorem body0 : @Cert.Kernel.cc0__pass1_kernel Bits _ Cert.Kernel.Gen.facts
    = @Cert.KernelIdeal.cc0__pass1_kernel Bits _ bitsNamed Cert.KernelIdeal.Gen.facts := by
  unfold Cert.Kernel.cc0__pass1_kernel Cert.KernelIdeal.cc0__pass1_kernel; rfl
theorem body1 : @Cert.Kernel.cc1__pass2_kernel Bits _ Cert.Kernel.Gen.facts
    = @Cert.KernelIdeal.cc1__pass2_kernel Bits _ bitsNamed Cert.KernelIdeal.Gen.facts := by
  unfold Cert.Kernel.cc1__pass2_kernel Cert.KernelIdeal.cc1__pass2_kernel; rfl
theorem bodies : @Cert.Kernel.defs₀ Bits _ Cert.Kernel.Gen.facts
    = @Cert.KernelIdeal.defs₀ Bits _ bitsNamed Cert.KernelIdeal.Gen.facts := by
  unfold Cert.Kernel.defs₀ Cert.KernelIdeal.defs₀
  rw [body0, body1]
  refine congrArg Defs.onTc ?_
  funext l a
  match l, a with
  | 0, (t, s) => rfl
  | 1, (t, s) => rfl
theorem pipes : @Cert.Kernel.pcfgs Bits _ = @Cert.KernelIdeal.pcfgs Bits _ := rfl
theorem defs_eq : @Cert.Kernel.defs Bits _ Cert.Kernel.Gen.facts
    = @Cert.KernelIdeal.defs Bits _ bitsNamed Cert.KernelIdeal.Gen.facts :=
  congrArg (Pipeline.defs (@Cert.KernelIdeal.pcfgs Bits _)) bodies
theorem mains : @Cert.Kernel.main Bits _ = @Cert.KernelIdeal.main Bits _ := rfl

theorem frame_kernel : Cert.quiescent_Kernel (hKernel := Cert.Kernel.Gen.facts) := fun m ρ _ =>
  Eq.mpr (congrArg₂ (fun d p => θ_run d (onTc p) ⟨m, fun _ => 0, ρ⟩ _) defs_eq mains)
    ((θ_run (@Cert.KernelIdeal.defs Bits _ bitsNamed Cert.KernelIdeal.Gen.facts) _ _).mono (fun _ h => ⟨fun c => (h.1 c).2, h.2⟩)
      (@Passes.run_main Bits _ bitsNamed m ρ))

end Cert.Proof

end
-- ==== Proof.RefRun.lean ====
/-
  The reference's frame: its run is straight-line host code, which leaves the arguments as they were and has no counter.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

noncomputable section

namespace Cert.Proof

open Idealize.ShloMosaic Idealize.ShloMosaic.TcCoe Idealize.SL.Sem

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Pay.lean ====
/-
  The bodies' pieces over the extended reals, entry by entry: every product a sum over the contracted coordinate, every
  change of format the identity, the 4-bit quotient a rounded and clamped number.
-/
module

public import proofs.«01_k».proof.Proof.Pass1Body
public import proofs.«01_k».proof.Proof.Pass2Body
public import Idealize.ShloMosaic.Lib.MatmulPlain
public import Idealize.ShloMosaic.Lib.ValueIdx
public import Idealize.ShloMosaic.Lib.Pipeline.Value
public import Idealize.ShloMosaic.Lib.ValueLayout

@[expose] public section

set_option maxRecDepth 16384

noncomputable section

namespace Cert.Proof.Passes

open Cert.KernelIdeal Cert.KernelIdeal.Gen
open Idealize.ShloMosaic hiding ix1 ix2 ix3
open Idealize.ShloMosaic.ValueIdx

/-- The inverse root the batch normalisations scale by. -/
abbrev kS : EReal := (((Real.sqrt (2097173 / 2097152))⁻¹ : ℝ) : EReal)

theorem named_scale : Named.named (F := Ideal) Cert.KernelIdeal.κ "bn_scale" (φ := .f32) 0x3F7FFFAC#32 = kS :=
  IdealRules.named_const.ideal_named_scalar _ _ _ _ rfl
theorem named_step : Named.named (F := Ideal) Cert.KernelIdeal.κ "step" (φ := .f32) 0x3D888889#32 = ((1 / 15 : ℝ) : EReal) :=
  IdealRules.named_const.ideal_named_scalar _ _ _ _ rfl

theorem zero_bits : Ideal.ofBits .f32 0x00000000#32 = (0 : EReal) := by
  simp [Ideal.ofBits, Ideal.ieee, -EReal.coe_mul]
theorem fifteen_bits : Ideal.ofBits .f32 0x41700000#32 = ((15 : ℝ) : EReal) := by
  simp [Ideal.ofBits, Ideal.ieee, -EReal.coe_mul]; norm_num
theorem var_bits : Ideal.ofBits .f32 0x3F800054#32 = ((2097173 / 2097152 : ℝ) : EReal) := by
  simp [Ideal.ofBits, Ideal.ieee, -EReal.coe_mul]; norm_num
theorem inf_bits : Ideal.ofBits .f32 0x7F800000#32 = (⊤ : EReal) := by
  simp [Ideal.ofBits, Ideal.ieee]

/-- A product from a zero accumulator, read at a row and a column. -/
theorem mm {M K N : ℕ} {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (i : Fin M) (j : Fin N) :
    matmul d prec l r (constant (F := Ideal) ⟨2, ![M, N]⟩ .f32 0x00000000#32) (ix2 i j) = ∑ k : Fin K, l (ix2 i k) * r (ix2 k j) := by
  subst hd
  refine (Ideal.matmul_plain_apply prec l r _ i j).trans ?_
  show Ideal.ofBits .f32 0x00000000#32 + _ = _
  rw [zero_bits, zero_add]

/-! ### The shapes met -/

theorem mm_10000_128_64 {φ₁ φ₂ : FTy} (prec : Option ContractPrecision) (l : FVec Ideal S10000x128 φ₁) (r : FVec Ideal S128x64 φ₂)
    (i : Fin 10000) (j : Fin 64) :
    matmul dot_S10000x128_S128x64_S10000x64_1_0_0_1_n_n prec l r (constant (F := Ideal) S10000x64 .f32 0x00000000#32) (ix2 i j)
      = ∑ k : Fin 128, l (ix2 i k) * r (ix2 k j) := mm (M := 10000) (K := 128) (N := 64) _ rfl prec l r i j

theorem mm_400_10000_64 {φ₁ φ₂ : FTy} (prec : Option ContractPrecision) (l : FVec Ideal S400x10000 φ₁) (r : FVec Ideal S10000x64 φ₂)
    (i : Fin 400) (j : Fin 64) :
    matmul dot_S400x10000_S10000x64_S400x64_1_0_0_1_n_n prec l r (constant (F := Ideal) S400x64 .f32 0x00000000#32) (ix2 i j)
      = ∑ k : Fin 10000, l (ix2 i k) * r (ix2 k j) := mm (M := 400) (K := 10000) (N := 64) _ rfl prec l r i j

theorem mm_400_128_32 {φ₁ φ₂ : FTy} (prec : Option ContractPrecision) (l : FVec Ideal S400x128 φ₁) (r : FVec Ideal S128x32 φ₂)
    (i : Fin 400) (j : Fin 32) :
    matmul dot_S400x128_S128x32_S400x32_1_0_0_1_n_n prec l r (constant (F := Ideal) S400x32 .f32 0x00000000#32) (ix2 i j)
      = ∑ k : Fin 128, l (ix2 i k) * r (ix2 k j) := mm (M := 400) (K := 128) (N := 32) _ rfl prec l r i j

theorem mm_400_32_32 {φ₁ φ₂ : FTy} (prec : Option ContractPrecision) (l : FVec Ideal S400x32 φ₁) (r : FVec Ideal S32x32 φ₂)
    (i : Fin 400) (j : Fin 32) :
    matmul dot_S400x32_S32x32_S400x32_1_0_0_1_n_n prec l r (constant (F := Ideal) S400x32 .f32 0x00000000#32) (ix2 i j)
      = ∑ k : Fin 32, l (ix2 i k) * r (ix2 k j) := mm (M := 400) (K := 32) (N := 32) _ rfl prec l r i j

theorem mm_400_128_40 {φ₁ φ₂ : FTy} (prec : Option ContractPrecision) (l : FVec Ideal S400x128 φ₁) (r : FVec Ideal S128x40 φ₂)
    (i : Fin 400) (j : Fin 40) :
    matmul dot_S400x128_S128x40_S400x40_1_0_0_1_n_n prec l r (constant (F := Ideal) S400x40 .f32 0x00000000#32) (ix2 i j)
      = ∑ k : Fin 128, l (ix2 i k) * r (ix2 k j) := mm (M := 400) (K := 128) (N := 40) _ rfl prec l r i j

theorem mm_400_32_40 {φ₁ φ₂ : FTy} (prec : Option ContractPrecision) (l : FVec Ideal S400x32 φ₁) (r : FVec Ideal S32x40 φ₂)
    (i : Fin 400) (j : Fin 40) :
    matmul dot_S400x32_S32x40_S400x40_1_0_0_1_n_n prec l r (constant (F := Ideal) S400x40 .f32 0x00000000#32) (ix2 i j)
      = ∑ k : Fin 32, l (ix2 i k) * r (ix2 k j) := mm (M := 400) (K := 32) (N := 40) _ rfl prec l r i j

theorem mm_400_5120_32 {φ₁ φ₂ : FTy} (prec : Option ContractPrecision) (l : FVec Ideal S400x5120 φ₁) (r : FVec Ideal S5120x32 φ₂)
    (i : Fin 400) (j : Fin 32) :
    matmul dot_S400x5120_S5120x32_S400x32_1_0_0_1_n_n prec l r (constant (F := Ideal) S400x32 .f32 0x00000000#32) (ix2 i j)
      = ∑ k : Fin 5120, l (ix2 i k) * r (ix2 k j) := mm (M := 400) (K := 5120) (N := 32) _ rfl prec l r i j

theorem mm_400_10000_32 {φ₁ φ₂ : FTy} (prec : Option ContractPrecision) (l : FVec Ideal S400x10000 φ₁) (r : FVec Ideal S10000x32 φ₂)
    (i : Fin 400) (j : Fin 32) :
    matmul dot_S400x10000_S10000x32_S400x32_1_0_0_1_n_n prec l r (constant (F := Ideal) S400x32 .f32 0x00000000#32) (ix2 i j)
      = ∑ k : Fin 10000, l (ix2 i k) * r (ix2 k j) := mm (M := 400) (K := 10000) (N := 32) _ rfl prec l r i j

theorem mm_400_4880_32 {φ₁ φ₂ : FTy} (prec : Option ContractPrecision) (l : FVec Ideal S400x4880 φ₁) (r : FVec Ideal S4880x32 φ₂)
    (i : Fin 400) (j : Fin 32) :
    matmul dot_S400x4880_S4880x32_S400x32_1_0_0_1_n_n prec l r (constant (F := Ideal) S400x32 .f32 0x00000000#32) (ix2 i j)
      = ∑ k : Fin 4880, l (ix2 i k) * r (ix2 k j) := mm (M := 400) (K := 4880) (N := 32) _ rfl prec l r i j

theorem row_bcast {N : ℕ} (x : FVec Ideal S1x32 .f32) (h : S1x32.Broadcasts ⟨2, ![N, 32]⟩) (r : Fin N) (j : Fin 32) :
    broadcastTo (⟨2, ![N, 32]⟩ : Shape) x h (ix2 r j) = x (ix2 (0 : Fin 1) j) :=
  broadcastTo_apply x h _ _ fun a => match a with | ⟨0, _⟩ => rfl | ⟨1, _⟩ => rfl
theorem row_bcast40 (x : FVec Ideal S1x40 .f32) (h : S1x40.Broadcasts S400x40) (r : Fin 400) (j : Fin 40) :
    broadcastTo S400x40 x h (ix2 r j) = x (ix2 (0 : Fin 1) j) :=
  broadcastTo_apply x h _ _ fun a => match a with | ⟨0, _⟩ => rfl | ⟨1, _⟩ => rfl

theorem pay5_apply (x : Vec Ideal S10000x128 .f32) (w : Vec Ideal S128x64 .f32) (i : Fin 10000) (j : Fin 64) :
    k0_pay5 x w (ix2 i j) = ∑ k : Fin 128, x (ix2 i k) * w (ix2 k j) := by
  unfold k0_pay5
  simp only [shapeCast_self]
  rw [mm_10000_128_64]

theorem pay7_apply (a : Vec Ideal S400x10000 .f32) (s : Vec Ideal S10000x64 .f32) (r : Fin 400) (j : Fin 64) :
    k0_pay7 a s (ix2 r j) = ∑ k : Fin 10000, a (ix2 r k) * s (ix2 k j) := by
  unfold k0_pay7
  rw [mm_400_10000_64]

theorem slice_lo (t : FVec Ideal S400x64 .f32) (h : S400x64.Slices ![0, 0] S400x32) (r : Fin 400) (j : Fin 32) :
    extractStridedSlice S400x32 ![0, 0] t h (ix2 r j) = t (ix2 r ⟨j.val, by omega⟩) :=
  extractStridedSlice_apply _ _ _ _ _ fun a => match a with | ⟨0, _⟩ => (Nat.zero_add _).symm | ⟨1, _⟩ => (Nat.zero_add _).symm
theorem slice_hi (t : FVec Ideal S400x64 .f32) (h : S400x64.Slices ![0, 32] S400x32) (r : Fin 400) (j : Fin 32) :
    extractStridedSlice S400x32 ![0, 32] t h (ix2 r j) = t (ix2 r ⟨32 + j.val, by omega⟩) :=
  extractStridedSlice_apply _ _ _ _ _ fun a => match a with | ⟨0, _⟩ => (Nat.zero_add _).symm | ⟨1, _⟩ => rfl

theorem pay8_apply (a : Vec Ideal S400x10000 .f32) (x : Vec Ideal S400x128 .f32) (s : Vec Ideal S10000x64 .f32) (w : Vec Ideal S128x32 .f32)
    (r : Fin 400) (j : Fin 32) :
    k0_pay8 a x s w (ix2 r j) = k0_pay7 a s (ix2 r ⟨j.val, by omega⟩) + ∑ k : Fin 128, x (ix2 r k) * w (ix2 k j) := by
  unfold k0_pay8
  show extractStridedSlice _ _ _ _ _ + matmul (F := Ideal) _ _ _ _ _ _ = _
  rw [slice_lo]
  rw [mm_400_128_32]

/-- The normalised, shifted and rectified value, the scale folded into the two rows. -/
def foldRelu (s b g be : EReal) : EReal := max (s * (kS * g) + (b * kS * g + be)) 0

theorem pay11_apply (s : FVec Ideal S400x32 .f32) (b g be : Vec Ideal S1x32 .f32) (r : Fin 400) (j : Fin 32) :
    k0_pay11 s (k0_pay9 g) (k0_pay10 b g) be (ix2 r j)
      = foldRelu (s (ix2 r j)) (b (ix2 (0 : Fin 1) j)) (g (ix2 (0 : Fin 1) j)) (be (ix2 (0 : Fin 1) j)) := by
  unfold k0_pay11 k0_pay9 k0_pay10
  simp only [shapeCast_self]
  show max (_ * broadcastTo _ _ _ _ + broadcastTo _ _ _ _) (Ideal.ofBits .f32 0x00000000#32) = _
  rw [row_bcast, row_bcast, zero_bits]
  show max (_ * (Named.named (F := Ideal) Cert.KernelIdeal.κ "bn_scale" (φ := .f32) 0x3F7FFFAC#32 * _)
    + (_ * Named.named (F := Ideal) Cert.KernelIdeal.κ "bn_scale" (φ := .f32) 0x3F7FFFAC#32 * _ + _)) 0 = _
  rw [named_scale]; rfl

theorem pay12_apply (x : Vec Ideal S400x128 .f32) (t : FVec Ideal S400x64 .f32) (w : Vec Ideal S128x32 .f32)
    (g b be : Vec Ideal S1x32 .f32) (r : Fin 400) (j : Fin 32) :
    k0_pay12 x t w g b g be (ix2 r j)
      = foldRelu (t (ix2 r ⟨32 + j.val, by omega⟩) + ∑ k : Fin 128, x (ix2 r k) * w (ix2 k j))
          (b (ix2 (0 : Fin 1) j)) (g (ix2 (0 : Fin 1) j)) (be (ix2 (0 : Fin 1) j)) := by
  unfold k0_pay12
  simp only [shapeCast_self]
  show max ((extractStridedSlice _ _ _ _ _ + matmul (F := Ideal) _ _ _ _ _ _) * broadcastTo _ _ _ _ + broadcastTo _ _ _ _) (Ideal.ofBits .f32 0x00000000#32) = _
  rw [row_bcast, row_bcast, zero_bits, slice_hi, mm_400_128_32]
  show max (_ * (Named.named (F := Ideal) Cert.KernelIdeal.κ "bn_scale" (φ := .f32) 0x3F7FFFAC#32 * _)
    + (_ * Named.named (F := Ideal) Cert.KernelIdeal.κ "bn_scale" (φ := .f32) 0x3F7FFFAC#32 * _ + _)) 0 = _
  rw [named_scale]; rfl

theorem pay13_apply (x : Vec Ideal S400x128 .f32) (t : FVec Ideal S400x64 .f32) (w : Vec Ideal S128x32 .f32)
    (g b be : Vec Ideal S1x32 .f32) (v : Vec Ideal S32x32 .f32) (r : Fin 400) (j : Fin 32) :
    k0_pay13 x t w g b g be v (ix2 r j) = ∑ k : Fin 32, k0_pay12 x t w g b g be (ix2 r k) * v (ix2 k j) := by
  unfold k0_pay13
  rw [mm_400_32_32]

theorem pay2_apply (x : Vec Ideal S400x128 .f32) (s : FVec Ideal S400x32 .f32) (wa : Vec Ideal S128x40 .f32) (wb : Vec Ideal S32x40 .f32)
    (bc : Vec Ideal S1x40 .f32) (r : Fin 400) (j : Fin 40) :
    k0_pay2 x s wa wb bc (ix2 r j)
      = ((∑ k : Fin 128, x (ix2 r k) * wa (ix2 k j)) + ∑ k : Fin 32, s (ix2 r k) * wb (ix2 k j)) + bc (ix2 (0 : Fin 1) j) := by
  unfold k0_pay2
  simp only [shapeCast_self]
  show (matmul (F := Ideal) _ _ _ _ _ _ + matmul (F := Ideal) _ _ _ _ _ _) + broadcastTo _ _ _ _ = _
  rw [row_bcast40, mm_400_128_40, mm_400_32_40]

/-- The number a 4-bit word stands for. -/
abbrev num4 (w : BitVec 4) : EReal := ((w.toNat : ℝ) : EReal)

theorem cast_q {α : Type} (q : S1x400x10000.Idx → α) (h : S1x400x10000.ShapeCasts S400x10000) (r : Fin 400) (k : Fin 10000) :
    shapeCast S400x10000 q h (ix2 r k) = q (ix3 (0 : Fin 1) r k) := shapeCast_1ab_ab_apply _ _ _ _

theorem pay3_apply (q : Vec Ideal S1x400x10000 .i4) (s : Vec Ideal S5120x32 .bf16) (r : Fin 400) (j : Fin 32) :
    k0_pay3 q s (ix2 r j) = ∑ k : Fin 5120, num4 (q (ix3 (0 : Fin 1) r ⟨k.val, by omega⟩)) * s (ix2 k j) := by
  unfold k0_pay3
  rw [mm_400_5120_32]
  refine Finset.sum_congr rfl fun k _ => ?_
  refine congrArg (· * _) ?_
  show FloatOps.uitofp (F := Ideal) .bf16 (extractStridedSlice S400x5120 ![0, 0] (shapeCast S400x10000 q _) _ (ix2 r k)) = _
  rw [extractStridedSlice_apply ![0, 0] _ _ (ix2 r k) (ix2 r (⟨k.val, by omega⟩ : Fin 10000))
    (fun a => match a with | ⟨0, _⟩ => (Nat.zero_add _).symm | ⟨1, _⟩ => (Nat.zero_add _).symm), cast_q]
  rfl

theorem pay4_apply (r : Fin 400) (j : Fin 32) : k0_pay4 (F := Ideal) (ix2 r j) = (0 : EReal) := zero_bits

theorem pay1_apply (s : FVec Ideal S400x32 .f32) (r : Fin 400) (j : Fin 32) : k0_pay1 s (ix2 r j) = s (ix2 r j) := by
  unfold k0_pay1; simp only [shapeCast_self]; rfl

theorem pay6_apply (a : Vec Ideal S400x10000 .f32) (r : Fin 400) (k : Fin 10000) :
    k0_pay6 a (ix3 (0 : Fin 1) r k) = FloatOps.fptoui (F := Ideal) (φ := .f32) 4 (FloatOps.roundeven (F := Ideal) (φ := .f32) (a (ix2 r k) * ((15 : ℝ) : EReal))) := by
  unfold k0_pay6
  rw [shapeCast_ab_1ab_apply]
  show FloatOps.fptoui (F := Ideal) (φ := .f32) 4 (FloatOps.roundeven (F := Ideal) (φ := .f32) (a (ix2 r k) * Ideal.ofBits .f32 0x41700000#32)) = _
  rw [fifteen_bits]

/-! ## The second pass -/

theorem q6_apply (q : Vec Ideal S1x400x10000 .i4) (s : Vec Ideal S10000x32 .bf16) (r : Fin 400) (j : Fin 32) :
    k1_pay6 q s (ix2 r j) = ∑ k : Fin 10000, num4 (q (ix3 (0 : Fin 1) r k)) * s (ix2 k j) := by
  unfold k1_pay6
  simp only [shapeCast_self]
  rw [mm_400_10000_32]
  refine Finset.sum_congr rfl fun k _ => ?_
  refine congrArg (· * _) ?_
  show FloatOps.uitofp (F := Ideal) .bf16 (shapeCast S400x10000 q _ (ix2 r k)) = _
  rw [cast_q]; rfl

theorem q7_apply (q : Vec Ideal S1x400x10000 .i4) (s : Vec Ideal S4880x32 .bf16) (r : Fin 400) (j : Fin 32) :
    k1_pay7 q s (ix2 r j) = ∑ k : Fin 4880, num4 (q (ix3 (0 : Fin 1) r ⟨5120 + k.val, by omega⟩)) * s (ix2 k j) := by
  unfold k1_pay7
  simp only [shapeCast_self]
  rw [mm_400_4880_32]
  refine Finset.sum_congr rfl fun k _ => ?_
  refine congrArg (· * _) ?_
  show FloatOps.uitofp (F := Ideal) .bf16 (extractStridedSlice S400x4880 ![0, 5120] (shapeCast S400x10000 q _) _ (ix2 r k)) = _
  rw [extractStridedSlice_apply ![0, 5120] _ _ (ix2 r k) (ix2 r (⟨5120 + k.val, by omega⟩ : Fin 10000))
    (fun a => match a with | ⟨0, _⟩ => (Nat.zero_add _).symm | ⟨1, _⟩ => rfl), cast_q]
  rfl

theorem q4_apply (s : Vec Ideal S10000x32 .f32) : k1_pay4 s = s := by
  unfold k1_pay4; simp only [shapeCast_self]; rfl

theorem q8_apply (a : Vec Ideal S400x32 .f32) (w : Vec Ideal S32x32 .f32) (r : Fin 400) (j : Fin 32) :
    k1_pay8 a w (ix2 r j) = ∑ k : Fin 32, a (ix2 r k) * w (ix2 k j) := by
  unfold k1_pay8
  simp only [shapeCast_self]
  rw [mm_400_32_32]

/-- The last layer's value before the classifier: the product of 4-bit words scaled by `1/15` and the folded scale at once. -/
def foldRelu2 (T sl b g be : EReal) : EReal :=
  max (T * (((1 / 15 : ℝ) : EReal) * (kS * g)) + sl * (kS * g) + (b * kS * g + be)) 0

theorem out_apply (tq tp : Vec Ideal S400x32 .f32) (a : Vec Ideal S400x32 .f32) (acc : Vec Ideal S400x40 .f32) (S11 : Vec Ideal S32x32 .f32)
    (b g be : Vec Ideal S1x32 .f32) (wcc : Vec Ideal S32x40 .f32) (r : Fin 400) (j : Fin 40) :
    outBlk tq tp a acc S11 b g be wcc (k1_pay5 g) (ix2 r j)
      = acc (ix2 r j) + ∑ k : Fin 32,
          foldRelu2 (tq (ix2 r k) + tp (ix2 r k)) (∑ l : Fin 32, a (ix2 r l) * S11 (ix2 l k))
            (b (ix2 (0 : Fin 1) k)) (g (ix2 (0 : Fin 1) k)) (be (ix2 (0 : Fin 1) k)) * wcc (ix2 k j) := by
  unfold outBlk k1_pay1 k1_pay9
  simp only [shapeCast_self]
  show _ + matmul (F := Ideal) _ _ _ _ _ _ = _
  rw [mm_400_32_40]
  refine congrArg _ (Finset.sum_congr rfl fun k _ => congrArg (· * _) ?_)
  show max (((tq (ix2 r k) + tp (ix2 r k)) * broadcastTo _ _ _ _ + k1_pay8 a S11 (ix2 r k) * broadcastTo _ _ _ _) + broadcastTo _ _ _ _) (Ideal.ofBits .f32 0x00000000#32) = _
  rw [row_bcast, row_bcast, row_bcast, zero_bits, q8_apply]
  unfold k1_pay5 k1_pay2 k1_pay3
  simp only [shapeCast_self]
  show max (_ * (Named.named (F := Ideal) Cert.KernelIdeal.κ "step" (φ := .f32) 0x3D888889#32 * (Named.named (F := Ideal) Cert.KernelIdeal.κ "bn_scale" (φ := .f32) 0x3F7FFFAC#32 * _))
     + _ * (Named.named (F := Ideal) Cert.KernelIdeal.κ "bn_scale" (φ := .f32) 0x3F7FFFAC#32 * _)
    + (_ * Named.named (F := Ideal) Cert.KernelIdeal.κ "bn_scale" (φ := .f32) 0x3F7FFFAC#32 * _ + _)) 0 = _
  rw [named_scale, named_step]; rfl

end Cert.Proof.Passes

end
-- ==== Proof.Arrays.lean ====
/-
  The five arrays the first pass leaves and the one the second pass leaves, over the extended reals, row by row: row `r`
  of an array is row `r % 400` of what point `r / 400` computes.
-/
module

public import proofs.«01_k».proof.Proof.Pay
public import proofs.«01_k».proof.Proof.Pass1Region
public import proofs.«01_k».proof.Proof.Pass2Region

@[expose] public section

set_option maxRecDepth 16384

noncomputable section

namespace Cert.Proof.Passes

open Cert.KernelIdeal Cert.KernelIdeal.Gen
open Idealize.ShloMosaic hiding ix1 ix2 ix3 eq_ix2
open Idealize.ShloMosaic.ValueIdx Idealize.ShloMosaic.TcCoe

/-- Row `r` of point `t`'s block. -/
def rowAt (t : Fin 25) (r : Fin 400) : Fin 10000 := ⟨t.val * 400 + r.val, by omega⟩

theorem N0 : cfg0.N = 25 := N_0
theorem N1 : cfg1.N = 25 := N_1
/-- A grid point as a number under 25. -/
def pt0 (t : Fin cfg0.N) : Fin 25 := ⟨t.val, lt_of_lt_of_eq t.isLt N0⟩
def pt1 (t : Fin cfg1.N) : Fin 25 := ⟨t.val, lt_of_lt_of_eq t.isLt N1⟩

/-! ## The rows as functions of the arguments -/

variable (adj : FVec Ideal S10000x10000 .f32) (x : FVec Ideal S10000x128 .f32) (w : FVec Ideal S128x64 .f32)

/-- The first branch's activation. -/
def s1F (s : FVec Ideal S128x32 .f32) (b g be : FVec Ideal S1x32 .f32) (R : Fin 10000) (j : Fin 32) : EReal :=
  foldRelu ((∑ k : Fin 10000, adj (ix2 R k) * k0_pay5 (F := Ideal) x w (ix2 k ⟨j.val, by omega⟩)) + ∑ k : Fin 128, x (ix2 R k) * s (ix2 k j))
    (b (ix2 (0 : Fin 1) j)) (g (ix2 (0 : Fin 1) j)) (be (ix2 (0 : Fin 1) j))
/-- The second branch's first activation. -/
def aF (s : FVec Ideal S128x32 .f32) (b g be : FVec Ideal S1x32 .f32) (R : Fin 10000) (j : Fin 32) : EReal :=
  foldRelu ((∑ k : Fin 10000, adj (ix2 R k) * k0_pay5 (F := Ideal) x w (ix2 k ⟨32 + j.val, by omega⟩)) + ∑ k : Fin 128, x (ix2 R k) * s (ix2 k j))
    (b (ix2 (0 : Fin 1) j)) (g (ix2 (0 : Fin 1) j)) (be (ix2 (0 : Fin 1) j))
/-- The second layer's support. -/
def pF (s : FVec Ideal S128x32 .f32) (b g be : FVec Ideal S1x32 .f32) (v : FVec Ideal S32x32 .f32) (R : Fin 10000) (j : Fin 32) : EReal :=
  ∑ k : Fin 32, aF adj x w s b g be R k * v (ix2 k j)
/-- The classifier's sum without the last branch's share. -/
def accF (s : FVec Ideal S128x32 .f32) (b g be : FVec Ideal S1x32 .f32) (wa : FVec Ideal S128x40 .f32) (wb : FVec Ideal S32x40 .f32)
    (bc : FVec Ideal S1x40 .f32) (R : Fin 10000) (j : Fin 40) : EReal :=
  ((∑ k : Fin 128, x (ix2 R k) * wa (ix2 k j)) + ∑ k : Fin 32, s1F adj x w s b g be R k * wb (ix2 k j)) + bc (ix2 (0 : Fin 1) j)
/-- The adjacency as 4-bit words. -/
def qF (R k : Fin 10000) : BitVec 4 :=
  FloatOps.fptoui (F := Ideal) (φ := .f32) 4 (FloatOps.roundeven (F := Ideal) (φ := .f32) (adj (ix2 R k) * ((15 : ℝ) : EReal)))
/-- The first pass's share of the second layer's product. -/
def tpF (p : Fin 10000 → Fin 32 → EReal) (R : Fin 10000) (j : Fin 32) : EReal :=
  if R.val < 5200 then 0 else ∑ k : Fin 5120, num4 (qF adj R ⟨k.val, by omega⟩) * p ⟨k.val, by omega⟩ j

variable (V : (c : Dev nD) → (b : Ref sig .tc) → Buf (Elt Ideal) ((c : Thread nD τ).loc b)) (c : Dev nD)

/-! ## The first pass's blocks -/

theorem adjB_at (t : Fin cfg0.N) (r : Fin 400) (k : Fin 10000) :
    adjB V c t (ix2 r k) = (V c main_arg1 : FVec Ideal S10000x10000 .f32) (ix2 (rowAt (pt0 t) r) k) := by
  have e : win0_0.index t = ![(grid0.coords t 0).val, 0] := (by decide +kernel : ∀ t : Fin grid0.N, win0_0.index t = ![(grid0.coords t 0).val, 0]) t
  have e' : (grid0.coords t 0).val = t.val := coord0 t
  show V c main_arg1 ((win0_0.blk t).view.emb (ix2 r k)) = _
  refine congrArg (V c main_arg1) ?_
  funext a
  refine Fin.ext ?_
  match a with
  | ⟨0, _⟩ => blk_simp [e, e']; rfl
  | ⟨1, _⟩ => blk_simp [e, e']

theorem ldX_at (t : Fin cfg0.N) (X : FVec Ideal S10000x128 .f32) (r : Fin 400) (k : Fin 128) :
    View.ld (Val := Elt Ideal) (e' := .f32) X (rX (grid0.coords t)) (ix2 r k) = X (ix2 (rowAt (pt0 t) r) k) := by
  have e : k0_off1 (grid0.coords t) = ![400 * t.val, 0] := by rw [k0_off1_eq, coord0]
  have e0 : k0_off1 (grid0.coords t) 0 = 400 * t.val := congrFun e 0
  have e1 : k0_off1 (grid0.coords t) 1 = 0 := congrFun e 1
  refine View.ld_unit_apply_of (Val := Elt Ideal) (e := .f32) X _ _ _ (ix2 r k) (ix2 (rowAt (pt0 t) r) k) fun a => ?_
  match a with
  | ⟨0, _⟩ => exact ((congrArg (· + r.val) e0).trans (congrArg (· + r.val) (Nat.mul_comm 400 t.val))).symm
  | ⟨1, _⟩ => exact ((congrArg (· + k.val) e1).trans (Nat.zero_add _)).symm

theorem aV_at (t : Fin cfg0.N) (r : Fin 400) (j : Fin 32) :
    aV V c t (ix2 r j) = aF (V c main_arg1) (V c main_arg0) (V c main_v9) (V c main_arg8) (V c main_v3) (V c main_v4) (V c main_v5) (rowAt (pt0 t) r) j := by
  unfold aV aBlk
  rw [pay12_apply, pay7_apply]
  unfold aF scatV
  refine congrArg (foldRelu · _ _ _) (congrArg₂ (· + ·) (Finset.sum_congr rfl fun k _ => ?_) (Finset.sum_congr rfl fun k _ => ?_))
  · exact congrArg (· * _) (adjB_at V c t r k)
  · exact congrArg (· * _) (ldX_at t _ r k)

theorem pV_at (t : Fin cfg0.N) (r : Fin 400) (j : Fin 32) :
    pV V c t (ix2 r j) = pF (V c main_arg1) (V c main_arg0) (V c main_v9) (V c main_arg8) (V c main_v3) (V c main_v4) (V c main_v5) (V c main_arg12) (rowAt (pt0 t) r) j := by
  unfold pV pBlk
  rw [pay13_apply]
  unfold pF
  exact Finset.sum_congr rfl fun k _ => congrArg (· * _) (aV_at V c t r k)

theorem accV_at (t : Fin cfg0.N) (r : Fin 400) (j : Fin 40) :
    accV V c t (ix2 r j) = accF (V c main_arg1) (V c main_arg0) (V c main_v9) (V c main_arg3) (V c main_v0) (V c main_v1) (V c main_v2)
      (V c main_v10) (V c main_v11) (V c main_v13) (rowAt (pt0 t) r) j := by
  unfold accV accBlk
  rw [pay2_apply]
  unfold accF
  refine congrArg (· + _) (congrArg₂ (· + ·) (Finset.sum_congr rfl fun k _ => congrArg (· * _) (ldX_at t _ r k)) (Finset.sum_congr rfl fun k _ => congrArg (· * _) ?_))
  rw [pay11_apply, pay8_apply, pay7_apply]
  unfold s1F scatV
  refine congrArg (foldRelu · _ _ _) (congrArg₂ (· + ·) (Finset.sum_congr rfl fun k _ => ?_) (Finset.sum_congr rfl fun k _ => ?_))
  · exact congrArg (· * _) (adjB_at V c t r k)
  · exact congrArg (· * _) (ldX_at t _ r k)

/-- The support's scratch, a row and a column at a time. -/
theorem s11bV_at (R : Fin 10000) (j : Fin 32) :
    s11bV V c (ix2 R j) = pF (V c main_arg1) (V c main_arg0) (V c main_v9) (V c main_arg8) (V c main_v3) (V c main_v4) (V c main_v5) (V c main_arg12) R j := by
  have e : rowAt (pt0 (ptOf R)) ⟨R.val % 400, Nat.mod_lt _ (by decide)⟩ = R :=
    Fin.ext (by show R.val / 400 * 400 + R.val % 400 = R.val; omega)
  refine (pay1_apply (pV V c (ptOf R)) ⟨R.val % 400, Nat.mod_lt _ (by decide)⟩ j).trans ?_
  rw [pV_at, e]

theorem ldLow_at (X : FVec Ideal S10000x32 .bf16) (k : Fin 5120) (j : Fin 32) :
    View.ld (Val := Elt Ideal) (e' := .bf16) X rLow (ix2 k j) = X (ix2 (⟨k.val, by omega⟩ : Fin 10000) j) :=
  View.ld_unit_apply_of (Val := Elt Ideal) (e := .bf16) (S := S10000x32) X _ _ _ (ix2 k j) (ix2 (⟨k.val, by omega⟩ : Fin 10000) j)
    fun a => match a with | ⟨0, _⟩ => (Nat.zero_add _).symm | ⟨1, _⟩ => (Nat.zero_add _).symm
theorem ldHigh_at (X : FVec Ideal S10000x32 .bf16) (k : Fin 4880) (j : Fin 32) :
    View.ld (Val := Elt Ideal) (e' := .bf16) X rHigh (ix2 k j) = X (ix2 (⟨5120 + k.val, by omega⟩ : Fin 10000) j) :=
  View.ld_unit_apply_of (Val := Elt Ideal) (e := .bf16) (S := S10000x32) X _ _ _ (ix2 k j) (ix2 (⟨5120 + k.val, by omega⟩ : Fin 10000) j)
    fun a => match a with | ⟨0, _⟩ => rfl | ⟨1, _⟩ => (Nat.zero_add _).symm

theorem qBlk_at (t : Fin cfg0.N) (r : Fin 400) (k : Fin 10000) :
    k0_pay6 (adjB V c t) (ix3 (0 : Fin 1) r k) = qF (V c main_arg1) (rowAt (pt0 t) r) k := by
  rw [pay6_apply, adjB_at]; rfl

theorem tpartV_at (t : Fin cfg0.N) (r : Fin 400) (j : Fin 32) :
    tpartV V c t (ix2 r j) = tpF (V c main_arg1)
      (pF (V c main_arg1) (V c main_arg0) (V c main_v9) (V c main_arg8) (V c main_v3) (V c main_v4) (V c main_v5) (V c main_arg12)) (rowAt (pt0 t) r) j := by
  unfold tpartV tpF
  have hR : (rowAt (pt0 t) r).val = t.val * 400 + r.val := rfl
  have hr := r.isLt
  by_cases h : t.val < 13
  · rw [if_pos h, if_pos (by omega), pay4_apply]
  · rw [if_neg h, if_neg (by omega), pay3_apply]
    refine Finset.sum_congr rfl fun k _ => congrArg₂ (fun a b => num4 a * b) (qBlk_at V c t r _) ?_
    exact (ldLow_at _ k j).trans (s11bV_at V c _ j)

/-! ## The first pass's arrays -/

theorem emb0_15 (t : Fin cfg0.N) (y : S1x400x10000.Idx) : (win0_15.blk t).view.emb y = ix3 (pt0 t) (y 1) (y 2) := by
  have e : win0_15.index t = ![(grid0.coords t 0).val, 0, 0] := (by decide +kernel : ∀ t : Fin grid0.N, win0_15.index t = ![(grid0.coords t 0).val, 0, 0]) t
  have e' : (grid0.coords t 0).val = t.val := coord0 t
  have h0 : (y 0).val = 0 := Nat.lt_one_iff.1 (y 0).isLt
  funext a
  refine Fin.ext ?_
  match a with
  | ⟨0, _⟩ => blk_simp [e, e']; try rfl
  | ⟨1, _⟩ => blk_simp [e, e']; try rfl
  | ⟨2, _⟩ => blk_simp [e, e']; try rfl

theorem arr15 : (dat0 V c).arrAt 15 cfg0.N = fun i : S25x400x10000.Idx => qF (V c main_arg1) (rowAt (i 0) (i 1)) (i 2) := by
  refine (dat0 V c).arrAt_eq_of_covers 15 _ (by decide +kernel) fun t hf y => ?_
  blk_simp
  rw [after0_15]
  have h0 : (y : S1x400x10000.Idx) = ix3 (0 : Fin 1) ((y : S1x400x10000.Idx) 1) ((y : S1x400x10000.Idx) 2) := by
    funext a
    match a with
    | ⟨0, _⟩ => exact Fin.ext (Nat.lt_one_iff.1 ((y : S1x400x10000.Idx) 0).isLt)
    | ⟨1, _⟩ => rfl
    | ⟨2, _⟩ => rfl
  refine ((congrArg (k0_pay6 (adjB V c t)) h0).trans (qBlk_at V c t _ _)).trans ?_
  exact (congrArg (fun i : S25x400x10000.Idx => qF (V c main_arg1) (rowAt (i 0) (i 1)) (i 2)) (emb0_15 t y)).symm

theorem emb0_16 (t : Fin cfg0.N) (y : S400x32.Idx) : (win0_16.blk t).view.emb y = ix2 (rowAt (pt0 t) (y 0)) (y 1) := by
  have e : win0_16.index t = ![(grid0.coords t 0).val, 0] := (by decide +kernel : ∀ t : Fin grid0.N, win0_16.index t = ![(grid0.coords t 0).val, 0]) t
  have e' : (grid0.coords t 0).val = t.val := coord0 t
  funext a
  refine Fin.ext ?_
  match a with
  | ⟨0, _⟩ => blk_simp [e, e']; rfl
  | ⟨1, _⟩ => blk_simp [e, e']; try rfl

theorem arr16 : (dat0 V c).arrAt 16 cfg0.N = fun i : S10000x32.Idx => aF (V c main_arg1) (V c main_arg0) (V c main_v9) (V c main_arg8) (V c main_v3) (V c main_v4) (V c main_v5) (i 0) (i 1) := by
  refine (dat0 V c).arrAt_eq_of_covers 16 _ (by decide +kernel) fun t hf y => ?_
  blk_simp
  rw [after0_16]
  refine ((congrArg (aV V c t) (eq_ix2 (y : S400x32.Idx))).trans (aV_at V c t _ _)).trans ?_
  exact (congrArg (fun i : S10000x32.Idx => aF (V c main_arg1) (V c main_arg0) (V c main_v9) (V c main_arg8) (V c main_v3) (V c main_v4) (V c main_v5) (i 0) (i 1)) (emb0_16 t y)).symm

theorem emb0_17 (t : Fin cfg0.N) (y : S400x32.Idx) : (win0_17.blk t).view.emb y = ix2 (rowAt (pt0 t) (y 0)) (y 1) := by
  have e : win0_17.index t = ![(grid0.coords t 0).val, 0] := (by decide +kernel : ∀ t : Fin grid0.N, win0_17.index t = ![(grid0.coords t 0).val, 0]) t
  have e' : (grid0.coords t 0).val = t.val := coord0 t
  funext a
  refine Fin.ext ?_
  match a with
  | ⟨0, _⟩ => blk_simp [e, e']; rfl
  | ⟨1, _⟩ => blk_simp [e, e']; try rfl

theorem arr17 : (dat0 V c).arrAt 17 cfg0.N = fun i : S10000x32.Idx => pF (V c main_arg1) (V c main_arg0) (V c main_v9) (V c main_arg8) (V c main_v3) (V c main_v4) (V c main_v5) (V c main_arg12) (i 0) (i 1) := by
  refine (dat0 V c).arrAt_eq_of_covers 17 _ (by decide +kernel) fun t hf y => ?_
  blk_simp
  rw [after0_17]
  refine ((congrArg (pV V c t) (eq_ix2 (y : S400x32.Idx))).trans (pV_at V c t _ _)).trans ?_
  exact (congrArg (fun i : S10000x32.Idx => pF (V c main_arg1) (V c main_arg0) (V c main_v9) (V c main_arg8) (V c main_v3) (V c main_v4) (V c main_v5) (V c main_arg12) (i 0) (i 1)) (emb0_17 t y)).symm

theorem emb0_18 (t : Fin cfg0.N) (y : S400x32.Idx) : (win0_18.blk t).view.emb y = ix2 (rowAt (pt0 t) (y 0)) (y 1) := by
  have e : win0_18.index t = ![(grid0.coords t 0).val, 0] := (by decide +kernel : ∀ t : Fin grid0.N, win0_18.index t = ![(grid0.coords t 0).val, 0]) t
  have e' : (grid0.coords t 0).val = t.val := coord0 t
  funext a
  refine Fin.ext ?_
  match a with
  | ⟨0, _⟩ => blk_simp [e, e']; rfl
  | ⟨1, _⟩ => blk_simp [e, e']; try rfl

theorem arr18 : (dat0 V c).arrAt 18 cfg0.N = fun i : S10000x32.Idx => tpF (V c main_arg1) (pF (V c main_arg1) (V c main_arg0) (V c main_v9) (V c main_arg8) (V c main_v3) (V c main_v4) (V c main_v5) (V c main_arg12)) (i 0) (i 1) := by
  refine (dat0 V c).arrAt_eq_of_covers 18 _ (by decide +kernel) fun t hf y => ?_
  blk_simp
  rw [after0_18]
  refine ((congrArg (tpartV V c t) (eq_ix2 (y : S400x32.Idx))).trans (tpartV_at V c t _ _)).trans ?_
  exact (congrArg (fun i : S10000x32.Idx => tpF (V c main_arg1) (pF (V c main_arg1) (V c main_arg0) (V c main_v9) (V c main_arg8) (V c main_v3) (V c main_v4) (V c main_v5) (V c main_arg12)) (i 0) (i 1)) (emb0_18 t y)).symm

theorem emb0_19 (t : Fin cfg0.N) (y : S400x40.Idx) : (win0_19.blk t).view.emb y = ix2 (rowAt (pt0 t) (y 0)) (y 1) := by
  have e : win0_19.index t = ![(grid0.coords t 0).val, 0] := (by decide +kernel : ∀ t : Fin grid0.N, win0_19.index t = ![(grid0.coords t 0).val, 0]) t
  have e' : (grid0.coords t 0).val = t.val := coord0 t
  funext a
  refine Fin.ext ?_
  match a with
  | ⟨0, _⟩ => blk_simp [e, e']; rfl
  | ⟨1, _⟩ => blk_simp [e, e']; try rfl

theorem arr19 : (dat0 V c).arrAt 19 cfg0.N = fun i : S10000x40.Idx => accF (V c main_arg1) (V c main_arg0) (V c main_v9) (V c main_arg3) (V c main_v0) (V c main_v1) (V c main_v2) (V c main_v10) (V c main_v11) (V c main_v13) (i 0) (i 1) := by
  refine (dat0 V c).arrAt_eq_of_covers 19 _ (by decide +kernel) fun t hf y => ?_
  blk_simp
  rw [after0_19]
  refine ((congrArg (accV V c t) (eq_ix2 (y : S400x40.Idx))).trans (accV_at V c t _ _)).trans ?_
  exact (congrArg (fun i : S10000x40.Idx => accF (V c main_arg1) (V c main_arg0) (V c main_v9) (V c main_arg3) (V c main_v0) (V c main_v1) (V c main_v2) (V c main_v10) (V c main_v11) (V c main_v13) (i 0) (i 1)) (emb0_19 t y)).symm

/-! ## The second pass's blocks and its array -/

theorem emb1_0 (t : Fin cfg1.N) (r : Fin 400) (k : Fin 10000) : (win1_0.blk t).view.emb (ix3 (0 : Fin 1) r k) = ix3 (pt1 t) r k := by
  have e : win1_0.index t = ![(grid1.coords t 0).val, 0, 0] := (by decide +kernel : ∀ t : Fin grid1.N, win1_0.index t = ![(grid1.coords t 0).val, 0, 0]) t
  have e' : (grid1.coords t 0).val = t.val := coord1 t
  funext a
  refine Fin.ext ?_
  match a with
  | ⟨0, _⟩ => blk_simp [e, e']; try rfl
  | ⟨1, _⟩ => blk_simp [e, e']; try rfl
  | ⟨2, _⟩ => blk_simp [e, e']; try rfl

theorem emb1_2 (t : Fin cfg1.N) (y : S400x32.Idx) : (win1_2.blk t).view.emb y = ix2 (rowAt (pt1 t) (y 0)) (y 1) := by
  have e : win1_2.index t = ![(grid1.coords t 0).val, 0] := (by decide +kernel : ∀ t : Fin grid1.N, win1_2.index t = ![(grid1.coords t 0).val, 0]) t
  have e' : (grid1.coords t 0).val = t.val := coord1 t
  funext a
  refine Fin.ext ?_
  match a with
  | ⟨0, _⟩ => blk_simp [e, e']; rfl
  | ⟨1, _⟩ => blk_simp [e, e']; try rfl

theorem emb1_3 (t : Fin cfg1.N) (y : S400x32.Idx) : (win1_3.blk t).view.emb y = ix2 (rowAt (pt1 t) (y 0)) (y 1) := by
  have e : win1_3.index t = ![(grid1.coords t 0).val, 0] := (by decide +kernel : ∀ t : Fin grid1.N, win1_3.index t = ![(grid1.coords t 0).val, 0]) t
  have e' : (grid1.coords t 0).val = t.val := coord1 t
  funext a
  refine Fin.ext ?_
  match a with
  | ⟨0, _⟩ => blk_simp [e, e']; rfl
  | ⟨1, _⟩ => blk_simp [e, e']; try rfl

theorem emb1_4 (t : Fin cfg1.N) (y : S400x40.Idx) : (win1_4.blk t).view.emb y = ix2 (rowAt (pt1 t) (y 0)) (y 1) := by
  have e : win1_4.index t = ![(grid1.coords t 0).val, 0] := (by decide +kernel : ∀ t : Fin grid1.N, win1_4.index t = ![(grid1.coords t 0).val, 0]) t
  have e' : (grid1.coords t 0).val = t.val := coord1 t
  funext a
  refine Fin.ext ?_
  match a with
  | ⟨0, _⟩ => blk_simp [e, e']; rfl
  | ⟨1, _⟩ => blk_simp [e, e']; try rfl

theorem emb1_10 (t : Fin cfg1.N) (y : S400x40.Idx) : (win1_10.blk t).view.emb y = ix2 (rowAt (pt1 t) (y 0)) (y 1) := by
  have e : win1_10.index t = ![(grid1.coords t 0).val, 0] := (by decide +kernel : ∀ t : Fin grid1.N, win1_10.index t = ![(grid1.coords t 0).val, 0]) t
  have e' : (grid1.coords t 0).val = t.val := coord1 t
  funext a
  refine Fin.ext ?_
  match a with
  | ⟨0, _⟩ => blk_simp [e, e']; rfl
  | ⟨1, _⟩ => blk_simp [e, e']; try rfl

/-- The second layer's product as the two passes form it together, and the row of the result. -/
def outF (q : S25x400x10000.Idx → BitVec 4) (p a tp : FVec Ideal S10000x32 .f32) (acc : FVec Ideal S10000x40 .f32) (v : FVec Ideal S32x32 .f32)
    (b g be : FVec Ideal S1x32 .f32) (wc : FVec Ideal S32x40 .f32) (t : Fin 25) (r : Fin 400) (j : Fin 40) : EReal :=
  acc (ix2 (rowAt t r) j) + ∑ k : Fin 32,
    foldRelu2 ((if t.val < 13 then ∑ l : Fin 10000, num4 (q (ix3 t r l)) * p (ix2 l k)
        else ∑ l : Fin 4880, num4 (q (ix3 t r ⟨5120 + l.val, by omega⟩)) * p (ix2 (⟨5120 + l.val, by omega⟩ : Fin 10000) k)) + tp (ix2 (rowAt t r) k))
      (∑ l : Fin 32, a (ix2 (rowAt t r) l) * v (ix2 l k)) (b (ix2 (0 : Fin 1) k)) (g (ix2 (0 : Fin 1) k)) (be (ix2 (0 : Fin 1) k)) * wc (ix2 k j)

theorem qB_at (t : Fin cfg1.N) (r : Fin 400) (k : Fin 10000) :
    qB V c t (ix3 (0 : Fin 1) r k) = (V c main_v14_0 : S25x400x10000.Idx → BitVec 4) (ix3 (pt1 t) r k) :=
  congrArg (V c main_v14_0) (emb1_0 t r k)
theorem aB_at (t : Fin cfg1.N) (r : Fin 400) (k : Fin 32) :
    aB V c t (ix2 r k) = (V c main_v14_1 : FVec Ideal S10000x32 .f32) (ix2 (rowAt (pt1 t) r) k) :=
  congrArg (V c main_v14_1) (emb1_2 t (ix2 r k))
theorem tpB_at (t : Fin cfg1.N) (r : Fin 400) (k : Fin 32) :
    tpB V c t (ix2 r k) = (V c main_v14_3 : FVec Ideal S10000x32 .f32) (ix2 (rowAt (pt1 t) r) k) :=
  congrArg (V c main_v14_3) (emb1_3 t (ix2 r k))
theorem accB_at (t : Fin cfg1.N) (r : Fin 400) (k : Fin 40) :
    accB V c t (ix2 r k) = (V c main_v14_4 : FVec Ideal S10000x40 .f32) (ix2 (rowAt (pt1 t) r) k) :=
  congrArg (V c main_v14_4) (emb1_4 t (ix2 r k))

theorem tqV_at (t : Fin cfg1.N) (r : Fin 400) (j : Fin 32) :
    tqV V c t (ix2 r j)
      = if (pt1 t).val < 13 then ∑ l : Fin 10000, num4 ((V c main_v14_0 : S25x400x10000.Idx → BitVec 4) (ix3 (pt1 t) r l)) * (V c main_v14_2 : FVec Ideal S10000x32 .f32) (ix2 l j)
        else ∑ l : Fin 4880, num4 ((V c main_v14_0 : S25x400x10000.Idx → BitVec 4) (ix3 (pt1 t) r ⟨5120 + l.val, by omega⟩)) * (V c main_v14_2 : FVec Ideal S10000x32 .f32) (ix2 (⟨5120 + l.val, by omega⟩ : Fin 10000) j) := by
  have hs : sbV V c = V c main_v14_2 := q4_apply _
  unfold tqV
  by_cases h : t.val < 13
  · rw [if_pos h, if_pos (show (pt1 t).val < 13 from h), q6_apply]
    exact Finset.sum_congr rfl fun k _ => congrArg₂ (fun a b => num4 a * b) (qB_at V c t r k) (congrFun hs _)
  · rw [if_neg h, if_neg (show ¬(pt1 t).val < 13 from h), q7_apply]
    exact Finset.sum_congr rfl fun k _ => congrArg₂ (fun a b => num4 a * b) (qB_at V c t r _) ((ldHigh_at _ k j).trans (congrFun hs _))

/-- A block of the result from what its operands hold at the row. -/
theorem out_row (tq tp a : FVec Ideal S400x32 .f32) (acc : FVec Ideal S400x40 .f32) (v : FVec Ideal S32x32 .f32) (b g be : FVec Ideal S1x32 .f32)
    (wc : FVec Ideal S32x40 .f32) (r : Fin 400) (j : Fin 40) (T P A : Fin 32 → EReal) (C : EReal) (hT : ∀ k, tq (ix2 r k) = T k) (hP : ∀ k, tp (ix2 r k) = P k)
    (hA : ∀ k, a (ix2 r k) = A k) (hC : acc (ix2 r j) = C) :
    outBlk (F := Ideal) tq tp a acc v b g be wc (k1_pay5 (F := Ideal) g) (ix2 r j)
      = C + ∑ k : Fin 32, foldRelu2 (T k + P k) (∑ l : Fin 32, A l * v (ix2 l k)) (b (ix2 (0 : Fin 1) k)) (g (ix2 (0 : Fin 1) k)) (be (ix2 (0 : Fin 1) k)) * wc (ix2 k j) := by
  rw [out_apply]
  simp only [hT, hP, hA, hC]

theorem outV_at (t : Fin cfg1.N) (r : Fin 400) (j : Fin 40) :
    outV V c t (ix2 r j) = outF (V c main_v14_0) (V c main_v14_2) (V c main_v14_1) (V c main_v14_3) (V c main_v14_4) (V c main_arg13)
      (V c main_v6) (V c main_v7) (V c main_v8) (V c main_v12) (pt1 t) r j :=
  out_row (tqV V c t) (tpB V c t) (aB V c t) (accB V c t) (V c main_arg13) (V c main_v6) (V c main_v7) (V c main_v8) (V c main_v12) r j _ _ _ _
    (fun k => tqV_at V c t r k) (fun k => tpB_at V c t r k) (fun k => aB_at V c t r k) (accB_at V c t r j)

/-- The result at a row: what the row's point computes. -/
theorem arr1_10 (G : S10000x40.Idx → EReal)
    (h : ∀ (t : Fin 25) (r : Fin 400) (j : Fin 40), outF (V c main_v14_0) (V c main_v14_2) (V c main_v14_1) (V c main_v14_3) (V c main_v14_4) (V c main_arg13)
      (V c main_v6) (V c main_v7) (V c main_v8) (V c main_v12) t r j = G (ix2 (rowAt t r) j)) :
    (dat1 V c).arrAt 10 cfg1.N = G := by
  refine (dat1 V c).arrAt_eq_of_covers 10 _ (by decide +kernel) fun t hf y => ?_
  blk_simp
  rw [after1_10]
  refine ((congrArg (outV V c t) (eq_ix2 (y : S400x40.Idx))).trans (outV_at V c t _ _)).trans ?_
  exact (h _ _ _).trans (congrArg G (emb1_10 t y)).symm

end Cert.Proof.Passes

end
-- ==== Proof.RefValue.lean ====
/-
  The reference over the extended reals, entry by entry: its two graph layers, the 4-bit quantiser between them, and the
  classifier's product split where the two concatenations meet.
-/
module

public import proofs.«01_k».proof.Proof.Gen.ReferenceIdeal.Read
public import proofs.«01_k».proof.Proof.Pay

@[expose] public section

set_option maxRecDepth 16384

noncomputable section

namespace Cert.Proof.RefValue

open Cert.ReferenceIdeal Cert.ReferenceIdeal.Gen Cert.ReferenceIdeal.Read
open Idealize.ShloMosaic hiding ix1 ix2 ix3
open Idealize.ShloMosaic.ValueIdx
open Cert.Proof.Passes (kS)

theorem at2 {m n : ℕ} (i : (⟨2, ![m, n]⟩ : Shape).Idx) (a : Fin m) (b : Fin n) (h0 : (i 0).val = a.val) (h1 : (i 1).val = b.val) : i = ix2 a b :=
  funext fun c => match c with | ⟨0, _⟩ => Fin.ext h0 | ⟨1, _⟩ => Fin.ext h1
theorem at1 {n : ℕ} (i : (⟨1, ![n]⟩ : Shape).Idx) (b : Fin n) (h : (i 0).val = b.val) : i = ix1 b :=
  funext fun c => match c with | ⟨0, _⟩ => Fin.ext h

variable (x0 : FVec Ideal S10000x128 .f32) (x1 : FVec Ideal S10000x10000 .f32) (x2 x3 : FVec Ideal S128x32 .f32)
  (x4 x5 x6 : FVec Ideal S32 .f32) (x7 x8 : FVec Ideal S128x32 .f32) (x9 x10 x11 : FVec Ideal S32 .f32)
  (x12 x13 : FVec Ideal S32x32 .f32) (x14 x15 x16 : FVec Ideal S32 .f32) (x17 : FVec Ideal S192x40 .f32) (x18 : FVec Ideal S40 .f32)

/-- The normalised and rectified value as the reference writes it. -/
def bnRelu (s b g be : EReal) : EReal := max ((s + b) * kS * g + be) 0

theorem root (s : EReal) : Ideal.div s (Ideal.sqrt ((2097173 / 2097152 : ℝ) : EReal)) = s * kS := by
  have h : ¬((2097173 / 2097152 : ℝ) < 0) := by norm_num
  rw [Ideal.sqrt_coe]
  simp only [h, ↓reduceIte]
  have h' : Real.sqrt (2097173 / 2097152) ≠ 0 := (Real.sqrt_pos.2 (by norm_num)).ne'
  rw [Ideal.div_coe h', one_div]

theorem fifteenth (s : EReal) : Ideal.div s ((15 : ℝ) : EReal) = s * ((1 / 15 : ℝ) : EReal) :=
  Ideal.div_coe (by norm_num) s

/-- The quantised adjacency, in sixteenths' steps: rounded and clamped. -/
theorem v3_at (r k : Fin 10000) :
    val_main_v3 (F := Ideal) x1 (ix2 r k)
      = min ((15 : ℝ) : EReal) (max 0 (FloatOps.roundeven (F := Ideal) (φ := .f32) (x1 (ix2 r k) * ((15 : ℝ) : EReal)))) := by
  rw [val_main_v3_apply, val_main_call1_v2_apply, val_main_call1_v4_apply, val_main_call1_v1_apply, val_main_v2_apply, val_main_v1_apply,
    val_main_v0_apply]
  show min (Ideal.ofBits .f32 0x41700000#32) (max (Ideal.ofBits .f32 0x00000000#32)
    (FloatOps.roundeven (F := Ideal) (φ := .f32) (x1 (ix2 r k) * Ideal.ofBits .f32 0x41700000#32))) = _
  rw [Passes.fifteen_bits, Passes.zero_bits]

theorem v5_at (r k : Fin 10000) : val_main_v5 (F := Ideal) x1 (ix2 r k) = val_main_v3 (F := Ideal) x1 (ix2 r k) * ((1 / 15 : ℝ) : EReal) := by
  rw [val_main_v5_apply, val_main_v4_apply]
  show Ideal.div _ (Ideal.ofBits .f32 0x41700000#32) = _
  rw [Passes.fifteen_bits, fifteenth]

theorem v6_at (r : Fin 10000) (j : Fin 32) : val_main_v6 (F := Ideal) x0 x2 (ix2 r j) = ∑ k : Fin 128, x0 (ix2 r k) * x2 (ix2 k j) := by
  rw [val_main_v6_apply]
  exact Finset.sum_congr rfl fun k _ => congrArg₂ (· * ·) (congrArg x0 (at2 _ _ _ rfl rfl)) (congrArg x2 (at2 _ _ _ rfl rfl))
theorem v7_at (r : Fin 10000) (j : Fin 32) : val_main_v7 (F := Ideal) x0 x1 x2 (ix2 r j) = ∑ k : Fin 10000, x1 (ix2 r k) * val_main_v6 (F := Ideal) x0 x2 (ix2 k j) := by
  rw [val_main_v7_apply]
  exact Finset.sum_congr rfl fun k _ => congrArg₂ (· * ·) (congrArg x1 (at2 _ _ _ rfl rfl)) (congrArg (val_main_v6 (F := Ideal) x0 x2) (at2 _ _ _ rfl rfl))
theorem v8_at (r : Fin 10000) (j : Fin 32) : val_main_v8 (F := Ideal) x0 x3 (ix2 r j) = ∑ k : Fin 128, x0 (ix2 r k) * x3 (ix2 k j) := by
  rw [val_main_v8_apply]
  exact Finset.sum_congr rfl fun k _ => congrArg₂ (· * ·) (congrArg x0 (at2 _ _ _ rfl rfl)) (congrArg x3 (at2 _ _ _ rfl rfl))
theorem v24_at (r : Fin 10000) (j : Fin 32) : val_main_v24 (F := Ideal) x0 x7 (ix2 r j) = ∑ k : Fin 128, x0 (ix2 r k) * x7 (ix2 k j) := by
  rw [val_main_v24_apply]
  exact Finset.sum_congr rfl fun k _ => congrArg₂ (· * ·) (congrArg x0 (at2 _ _ _ rfl rfl)) (congrArg x7 (at2 _ _ _ rfl rfl))
theorem v25_at (r : Fin 10000) (j : Fin 32) : val_main_v25 (F := Ideal) x0 x1 x7 (ix2 r j) = ∑ k : Fin 10000, x1 (ix2 r k) * val_main_v24 (F := Ideal) x0 x7 (ix2 k j) := by
  rw [val_main_v25_apply]
  exact Finset.sum_congr rfl fun k _ => congrArg₂ (· * ·) (congrArg x1 (at2 _ _ _ rfl rfl)) (congrArg (val_main_v24 (F := Ideal) x0 x7) (at2 _ _ _ rfl rfl))
theorem v26_at (r : Fin 10000) (j : Fin 32) : val_main_v26 (F := Ideal) x0 x8 (ix2 r j) = ∑ k : Fin 128, x0 (ix2 r k) * x8 (ix2 k j) := by
  rw [val_main_v26_apply]
  exact Finset.sum_congr rfl fun k _ => congrArg₂ (· * ·) (congrArg x0 (at2 _ _ _ rfl rfl)) (congrArg x8 (at2 _ _ _ rfl rfl))

theorem v22_at (r : Fin 10000) (j : Fin 32) :
    val_main_v22 (F := Ideal) x0 x1 x2 x3 x4 x5 x6 (ix2 r j)
      = bnRelu (val_main_v7 (F := Ideal) x0 x1 x2 (ix2 r j) + val_main_v8 (F := Ideal) x0 x3 (ix2 r j)) (x4 (ix1 j)) (x5 (ix1 j)) (x6 (ix1 j)) := by
  rw [val_main_v22_apply, val_main_v21_apply, val_main_v18_apply, val_main_v15_apply, val_main_v12_apply, val_main_v9_apply,
    val_main_v11_apply, val_main_v10_apply, val_main_v14_apply, val_main_v17_apply, val_main_v16_apply, val_main_v20_apply, val_main_v19_apply,
    val_main_call2_v0_apply]
  show max (Ideal.div (_ + _ + _) (Ideal.sqrt (Ideal.ofBits .f32 0x3F800054#32)) * _ + _) (Ideal.ofBits .f32 0x00000000#32) = _
  rw [Passes.var_bits, Passes.zero_bits, root, at1 (idx_main_v10 _) j rfl, at1 (idx_main_v16 _) j rfl, at1 (idx_main_v19 _) j rfl]
  rfl

theorem v40_at (r : Fin 10000) (j : Fin 32) :
    val_main_v40 (F := Ideal) x0 x1 x7 x8 x9 x10 x11 (ix2 r j)
      = bnRelu (val_main_v25 (F := Ideal) x0 x1 x7 (ix2 r j) + val_main_v26 (F := Ideal) x0 x8 (ix2 r j)) (x9 (ix1 j)) (x10 (ix1 j)) (x11 (ix1 j)) := by
  rw [val_main_v40_apply, val_main_v39_apply, val_main_v36_apply, val_main_v33_apply, val_main_v30_apply, val_main_v27_apply,
    val_main_v29_apply, val_main_v28_apply, val_main_v32_apply, val_main_v35_apply, val_main_v34_apply, val_main_v38_apply, val_main_v37_apply,
    val_main_call3_v0_apply]
  show max (Ideal.div (_ + _ + _) (Ideal.sqrt (Ideal.ofBits .f32 0x3F800054#32)) * _ + _) (Ideal.ofBits .f32 0x00000000#32) = _
  rw [Passes.var_bits, Passes.zero_bits, root, at1 (idx_main_v28 _) j rfl, at1 (idx_main_v34 _) j rfl, at1 (idx_main_v37 _) j rfl]
  rfl

theorem v41_at (r : Fin 10000) (j : Fin 32) :
    val_main_v41 (F := Ideal) x0 x1 x7 x8 x9 x10 x11 x12 (ix2 r j)
      = ∑ k : Fin 32, val_main_v40 (F := Ideal) x0 x1 x7 x8 x9 x10 x11 (ix2 r k) * x12 (ix2 k j) := by
  rw [val_main_v41_apply]
  exact Finset.sum_congr rfl fun k _ => congrArg₂ (· * ·) (congrArg (val_main_v40 (F := Ideal) x0 x1 x7 x8 x9 x10 x11) (at2 _ _ _ rfl rfl)) (congrArg x12 (at2 _ _ _ rfl rfl))
theorem v42_at (r : Fin 10000) (j : Fin 32) :
    val_main_v42 (F := Ideal) x0 x1 x7 x8 x9 x10 x11 x12 (ix2 r j)
      = ∑ k : Fin 10000, val_main_v5 (F := Ideal) x1 (ix2 r k) * val_main_v41 (F := Ideal) x0 x1 x7 x8 x9 x10 x11 x12 (ix2 k j) := by
  rw [val_main_v42_apply]
  exact Finset.sum_congr rfl fun k _ => congrArg₂ (· * ·) (congrArg (val_main_v5 (F := Ideal) x1) (at2 _ _ _ rfl rfl)) (congrArg (val_main_v41 (F := Ideal) x0 x1 x7 x8 x9 x10 x11 x12) (at2 _ _ _ rfl rfl))
theorem v43_at (r : Fin 10000) (j : Fin 32) :
    val_main_v43 (F := Ideal) x0 x1 x7 x8 x9 x10 x11 x13 (ix2 r j)
      = ∑ k : Fin 32, val_main_v40 (F := Ideal) x0 x1 x7 x8 x9 x10 x11 (ix2 r k) * x13 (ix2 k j) := by
  rw [val_main_v43_apply]
  exact Finset.sum_congr rfl fun k _ => congrArg₂ (· * ·) (congrArg (val_main_v40 (F := Ideal) x0 x1 x7 x8 x9 x10 x11) (at2 _ _ _ rfl rfl)) (congrArg x13 (at2 _ _ _ rfl rfl))

theorem v57_at (r : Fin 10000) (j : Fin 32) :
    val_main_v57 (F := Ideal) x0 x1 x7 x8 x9 x10 x11 x12 x13 x14 x15 x16 (ix2 r j)
      = bnRelu (val_main_v42 (F := Ideal) x0 x1 x7 x8 x9 x10 x11 x12 (ix2 r j) + val_main_v43 (F := Ideal) x0 x1 x7 x8 x9 x10 x11 x13 (ix2 r j))
          (x14 (ix1 j)) (x15 (ix1 j)) (x16 (ix1 j)) := by
  rw [val_main_v57_apply, val_main_v56_apply, val_main_v53_apply, val_main_v50_apply, val_main_v47_apply, val_main_v44_apply,
    val_main_v46_apply, val_main_v45_apply, val_main_v49_apply, val_main_v52_apply, val_main_v51_apply, val_main_v55_apply, val_main_v54_apply,
    val_main_call4_v0_apply]
  show max (Ideal.div (_ + _ + _) (Ideal.sqrt (Ideal.ofBits .f32 0x3F800054#32)) * _ + _) (Ideal.ofBits .f32 0x00000000#32) = _
  rw [Passes.var_bits, Passes.zero_bits, root, at1 (idx_main_v45 _) j rfl, at1 (idx_main_v51 _) j rfl, at1 (idx_main_v54 _) j rfl]
  rfl

/-- The concatenation of the input and the first branch, read on either side of the seam. -/
theorem v23_lo (r : Fin 10000) (k : Fin 128) :
    val_main_v23 (F := Ideal) x0 x1 x2 x3 x4 x5 x6 (ix2 r (⟨k.val, by omega⟩ : Fin 160)) = x0 (ix2 r k) := by
  unfold val_main_v23
  refine concatenate_pair_apply_left (s₁ := S10000x128) (s₂ := S10000x32) 1 x0 _ _ (ix2 r (⟨k.val, by omega⟩ : Fin 160)) (by rfl) (ix2 r k) (fun b => by match b with | ⟨0, _⟩ => rfl | ⟨1, _⟩ => rfl)
theorem v23_hi (r : Fin 10000) (k : Fin 32) :
    val_main_v23 (F := Ideal) x0 x1 x2 x3 x4 x5 x6 (ix2 r (⟨128 + k.val, by omega⟩ : Fin 160)) = val_main_v22 (F := Ideal) x0 x1 x2 x3 x4 x5 x6 (ix2 r k) := by
  unfold val_main_v23
  exact concatenate_pair_apply_right (s₁ := S10000x128) (s₂ := S10000x32) 1 x0 _ _ (ix2 r (⟨128 + k.val, by omega⟩ : Fin 160)) (by rfl) (by rfl) (ix2 r k)
    (fun b hb => by match b with | ⟨0, _⟩ => rfl | ⟨1, _⟩ => exact absurd rfl hb) (Nat.add_comm _ _)

theorem v58_lo (r : Fin 10000) (k : Fin 160) :
    val_main_v58 (F := Ideal) x0 x1 x2 x3 x4 x5 x6 x7 x8 x9 x10 x11 x12 x13 x14 x15 x16 (ix2 r (⟨k.val, by omega⟩ : Fin 192))
      = val_main_v23 (F := Ideal) x0 x1 x2 x3 x4 x5 x6 (ix2 r k) := by
  unfold val_main_v58
  exact concatenate_pair_apply_left (s₁ := S10000x160) (s₂ := S10000x32) 1 _ _ _ (ix2 r (⟨k.val, by omega⟩ : Fin 192)) (by rfl) (ix2 r k)
    (fun b => by match b with | ⟨0, _⟩ => rfl | ⟨1, _⟩ => rfl)
theorem v58_hi (r : Fin 10000) (k : Fin 32) :
    val_main_v58 (F := Ideal) x0 x1 x2 x3 x4 x5 x6 x7 x8 x9 x10 x11 x12 x13 x14 x15 x16 (ix2 r (⟨160 + k.val, by omega⟩ : Fin 192))
      = val_main_v57 (F := Ideal) x0 x1 x7 x8 x9 x10 x11 x12 x13 x14 x15 x16 (ix2 r k) := by
  unfold val_main_v58
  exact concatenate_pair_apply_right (s₁ := S10000x160) (s₂ := S10000x32) 1 _ _ _ (ix2 r (⟨160 + k.val, by omega⟩ : Fin 192)) (by rfl) (by rfl) (ix2 r k)
    (fun b hb => by match b with | ⟨0, _⟩ => rfl | ⟨1, _⟩ => exact absurd rfl hb) (Nat.add_comm _ _)

/-- A sum over the 192 columns, split at the two seams. -/
theorem sum_192 (f : Fin 192 → EReal) :
    ∑ k, f k = ((∑ k : Fin 128, f ⟨k.val, by omega⟩) + ∑ k : Fin 32, f ⟨128 + k.val, by omega⟩) + ∑ k : Fin 32, f ⟨160 + k.val, by omega⟩ := by
  refine (Fin.sum_univ_add (a := 160) (b := 32) f).trans (congrArg (· + _) ?_)
  exact Fin.sum_univ_add (a := 128) (b := 32) fun k : Fin 160 => f (Fin.castAdd 32 k)

/-- The reference's result: three products added up, and the bias. -/
theorem v62_at (r : Fin 10000) (j : Fin 40) :
    val_main_v62 (F := Ideal) x0 x1 x2 x3 x4 x5 x6 x7 x8 x9 x10 x11 x12 x13 x14 x15 x16 x17 x18 (ix2 r j)
      = (((∑ k : Fin 128, x0 (ix2 r k) * x17 (ix2 (⟨k.val, by omega⟩ : Fin 192) j))
            + ∑ k : Fin 32, val_main_v22 (F := Ideal) x0 x1 x2 x3 x4 x5 x6 (ix2 r k) * x17 (ix2 (⟨128 + k.val, by omega⟩ : Fin 192) j))
          + ∑ k : Fin 32, val_main_v57 (F := Ideal) x0 x1 x7 x8 x9 x10 x11 x12 x13 x14 x15 x16 (ix2 r k) * x17 (ix2 (⟨160 + k.val, by omega⟩ : Fin 192) j))
        + x18 (ix1 j) := by
  rw [val_main_v62_apply, val_main_v61_apply, val_main_v60_apply, val_main_v59_apply, at1 (idx_main_v60 _) j rfl]
  show _ + _ = _
  refine congrArg (· + _) ?_
  have e : ∀ k : Fin 192, lidx_main_v59 (ix2 r j) k = ix2 r k := fun k => at2 _ _ _ rfl rfl
  have e' : ∀ k : Fin 192, ridx_main_v59 (ix2 r j) k = ix2 k j := fun k => at2 _ _ _ rfl rfl
  simp only [e, e']
  rw [sum_192]
  refine congrArg₂ (· + ·) (congrArg₂ (· + ·) ?_ ?_) ?_
  · refine Finset.sum_congr rfl fun k _ => congrArg (· * _) ?_
    exact (v58_lo x0 x1 x2 x3 x4 x5 x6 x7 x8 x9 x10 x11 x12 x13 x14 x15 x16 r (⟨k.val, by omega⟩ : Fin 160)).trans (v23_lo x0 x1 x2 x3 x4 x5 x6 r k)
  · refine Finset.sum_congr rfl fun k _ => congrArg (· * _) ?_
    exact (v58_lo x0 x1 x2 x3 x4 x5 x6 x7 x8 x9 x10 x11 x12 x13 x14 x15 x16 r (⟨128 + k.val, by omega⟩ : Fin 160)).trans (v23_hi x0 x1 x2 x3 x4 x5 x6 r k)
  · refine Finset.sum_congr rfl fun k _ => congrArg (· * _) ?_
    exact v58_hi x0 x1 x2 x3 x4 x5 x6 x7 x8 x9 x10 x11 x12 x13 x14 x15 x16 r k

end Cert.Proof.RefValue

end
-- ==== Proof.Math.lean ====
/-
  Facts of extended-real arithmetic the comparison rests on: the folded batch normalisation, the quantiser's two forms,
  and sums of finite numbers.
-/
module

public import proofs.«01_k».proof.Proof.RefValue

@[expose] public section

set_option maxRecDepth 16384

noncomputable section

namespace Cert.Proof

open Idealize.ShloMosaic hiding ix1 ix2 ix3
open Idealize.ShloMosaic.ValueIdx
open Passes (kS foldRelu foldRelu2 num4)
open RefValue (bnRelu)

/-- The scale as a real number. -/
abbrev kR : ℝ := (Real.sqrt (2097173 / 2097152))⁻¹
theorem kR_pos : 0 < kR := inv_pos.2 (Real.sqrt_pos.2 (by norm_num))

/-- A real bias and a real factor come out of the product, whatever extended real they are added to. -/
theorem fold_eq (s : EReal) (b k g : ℝ) (hk : 0 < k) :
    s * ((k : EReal) * (g : EReal)) + (b : EReal) * (k : EReal) * (g : EReal) = (s + (b : EReal)) * (k : EReal) * (g : EReal) := by
  rw [← EReal.coe_mul, ← EReal.coe_mul, ← EReal.coe_mul]
  induction s with
  | coe s => norm_cast; ring
  | top =>
    rw [EReal.top_add_coe, EReal.top_mul_coe_of_pos hk]
    rcases lt_trichotomy g 0 with h | h | h
    · rw [EReal.top_mul_coe_of_neg (mul_neg_of_pos_of_neg hk h), EReal.top_mul_coe_of_neg h, EReal.bot_add]
    · subst h; simp
    · rw [EReal.top_mul_coe_of_pos (mul_pos hk h), EReal.top_mul_coe_of_pos h, EReal.top_add_coe]
  | bot =>
    rw [EReal.bot_add, EReal.bot_mul_coe_of_pos hk]
    rcases lt_trichotomy g 0 with h | h | h
    · rw [EReal.bot_mul_coe_of_neg (mul_neg_of_pos_of_neg hk h), EReal.bot_mul_coe_of_neg h, EReal.top_add_coe]
    · subst h; simp
    · rw [EReal.bot_mul_coe_of_pos (mul_pos hk h), EReal.bot_mul_coe_of_pos h, EReal.bot_add]

/-- The scale folded into the two rows is the normalisation written out. -/
theorem foldRelu_eq (s be : EReal) (b g : ℝ) : foldRelu s b g be = bnRelu s b g be := by
  unfold foldRelu bnRelu
  rw [← add_assoc, fold_eq s b kR g kR_pos]

/-- The same for the second layer, where the product of whole numbers carries the step `1/15` as well. -/
theorem foldRelu2_eq (T R be : EReal) (σ b g : ℝ) (hR : R = T * ((1 / 15 : ℝ) : EReal)) :
    foldRelu2 T σ b g be = bnRelu (R + (σ : EReal)) b g be := by
  have e := fold_eq R (σ + b) kR g kR_pos
  have e' : (σ : EReal) * ((kR : EReal) * (g : EReal)) + (b : EReal) * (kR : EReal) * (g : EReal)
      = ((σ + b : ℝ) : EReal) * (kR : EReal) * (g : EReal) := by norm_cast; ring
  unfold foldRelu2 bnRelu
  refine congrArg (max · 0) ?_
  rw [← mul_assoc, ← hR, ← add_assoc, add_assoc (R * _), e', e, EReal.coe_add, add_assoc R]

/-- A finite real factor that is not negative goes into a sum. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih, EReal.right_distrib_of_nonneg_of_ne_top (by exact_mod_cast hc) (EReal.coe_ne_top c)]

/-! ## The quantiser -/

/-- Converting a rounded number to a 4-bit word clamps it to the sixteen whole numbers the word can hold. -/
theorem quant (z : EReal) :
    num4 (FloatOps.fptoui (F := Ideal) (φ := .f32) 4 (FloatOps.roundeven (F := Ideal) (φ := .f32) z))
      = min ((15 : ℝ) : EReal) (max 0 (FloatOps.roundeven (F := Ideal) (φ := .f32) z)) := by
  show ((((Ideal.fptoui 4 (Ideal.liftRound Ideal.roundHalfEven z)).toNat : ℕ) : ℝ) : EReal)
    = min ((15 : ℝ) : EReal) (max 0 (Ideal.liftRound Ideal.roundHalfEven z))
  unfold Ideal.fptoui
  induction z with
  | top => rw [Ideal.liftRound_top, Ideal.toIntClamped_top]; simp
  | bot => rw [Ideal.liftRound_bot, Ideal.toIntClamped_bot]; simp
  | coe r =>
    rw [Ideal.liftRound_coe, Ideal.toIntClamped_coe]
    generalize Ideal.roundHalfEven r = n
    have e : (if (0 : ℝ) ≤ (n : ℝ) then ⌊(n : ℝ)⌋ else ⌈(n : ℝ)⌉) = n := by
      rw [Int.floor_intCast, Int.ceil_intCast, ite_self]
    rw [e, BitVec.toNat_ofInt]
    have h : (((max 0 (min (((2 ^ 4 : ℕ) : ℤ) - 1) n) % ((2 ^ 4 : ℕ) : ℤ)).toNat : ℕ) : ℤ) = min 15 (max 0 n) := by
      omega
    have h' : (((max 0 (min (((2 ^ 4 : ℕ) : ℤ) - 1) n) % ((2 ^ 4 : ℕ) : ℤ)).toNat : ℕ) : ℝ) = min 15 (max 0 (n : ℝ)) := by
      have := congrArg (Int.cast (R := ℝ)) h
      push_cast at this ⊢
      exact this
    rw [h', EReal.coe_strictMono.monotone.map_min, EReal.coe_strictMono.monotone.map_max, EReal.coe_zero]

/-! ## Finite numbers -/

/-- A finite extended real. -/
def Fn (x : EReal) : Prop := ∃ r : ℝ, x = r

theorem Fn.add {x y : EReal} : Fn x → Fn y → Fn (x + y) := fun ⟨a, ha⟩ ⟨b, hb⟩ => ⟨a + b, by rw [ha, hb, EReal.coe_add]⟩
theorem Fn.mul {x y : EReal} : Fn x → Fn y → Fn (x * y) := fun ⟨a, ha⟩ ⟨b, hb⟩ => ⟨a * b, by rw [ha, hb, EReal.coe_mul]⟩
theorem Fn.relu {x : EReal} : Fn x → Fn (max x 0) := fun ⟨a, ha⟩ => ⟨max a 0, by rw [ha]; norm_cast⟩
theorem Fn.sum {ι : Type} (s : Finset ι) (f : ι → EReal) (h : ∀ k, Fn (f k)) : Fn (∑ k ∈ s, f k) := by
  classical
  induction s using Finset.induction_on with
  | empty => exact ⟨0, by simp⟩
  | insert a s ha ih => rw [Finset.sum_insert ha]; exact (h a).add ih
theorem Fn.bn {s b g be : EReal} (hs : Fn s) (hb : Fn b) (hg : Fn g) (hbe : Fn be) : Fn (bnRelu s b g be) :=
  ((((hs.add hb).mul ⟨kR, rfl⟩).mul hg).add hbe).relu

/-- A number whose magnitude is under infinity is finite. -/
theorem Fn.of_lt {x : EReal} (h : BitVec.ofBool (decide (max x (-x) < (⊤ : EReal))) = 1#1) : Fn x := by
  have h' : max x (-x) < ⊤ := by
    by_contra hc
    rw [decide_eq_false hc] at h
    exact absurd h (by decide)
  obtain ⟨h1, h2⟩ := max_lt_iff.1 h'
  induction x with
  | coe r => exact ⟨r, rfl⟩
  | top => exact absurd h1 (lt_irrefl _)
  | bot => exact absurd h2 (by simp)

end Cert.Proof

end
-- ==== Proof.Compare.lean ====
/-
  The two passes' row against the reference's: the same numbers once the folded normalisation is unfolded and the fifteenth
  is put back into the adjacency. Stated over plain arrays, the host's rows and pieces given by what they hold.
-/
module

public import proofs.«01_k».proof.Proof.Arrays
public import proofs.«01_k».proof.Proof.Math

@[expose] public section

set_option maxRecDepth 16384

noncomputable section

namespace Cert.Proof.Compare

open Cert.KernelIdeal Cert.KernelIdeal.Gen
open Cert.Proof.Passes Cert.Proof.RefValue
open Cert.ReferenceIdeal.Read (val_main_v3 val_main_v5 val_main_v6 val_main_v7 val_main_v8 val_main_v22 val_main_v24 val_main_v25 val_main_v26 val_main_v40 val_main_v41 val_main_v42 val_main_v43 val_main_v57 val_main_v62)
open Idealize.ShloMosaic hiding ix1 ix2 ix3 eq_ix2
open Idealize.ShloMosaic.ValueIdx Idealize.ShloMosaic.TcCoe

variable (x0 : FVec Ideal S10000x128 .f32) (x1 : FVec Ideal S10000x10000 .f32) (x2 x3 : FVec Ideal S128x32 .f32)
  (x4 x5 x6 : FVec Ideal S32 .f32) (x7 x8 : FVec Ideal S128x32 .f32) (x9 x10 x11 : FVec Ideal S32 .f32)
  (x12 x13 : FVec Ideal S32x32 .f32) (x14 x15 x16 : FVec Ideal S32 .f32) (x17 : FVec Ideal S192x40 .f32) (x18 : FVec Ideal S40 .f32)
  (w9 : FVec Ideal S128x64 .f32) (b0 g0 be0 b10 g10 be10 b11 g11 be11 : FVec Ideal S1x32 .f32)
  (wa : FVec Ideal S128x40 .f32) (wb wc : FVec Ideal S32x40 .f32) (bc : FVec Ideal S1x40 .f32)

/-! ## The first layer -/

theorem supp_lo (hw : ∀ (k : Fin 128) (j : Fin 32), w9 (ix2 k ⟨j.val, by omega⟩) = x2 (ix2 k j)) (k : Fin 10000) (j : Fin 32) :
    k0_pay5 (F := Ideal) x0 w9 (ix2 k ⟨j.val, by omega⟩) = val_main_v6 (F := Ideal) x0 x2 (ix2 k j) := by
  rw [pay5_apply, v6_at]
  exact Finset.sum_congr rfl fun l _ => congrArg (x0 (ix2 k l) * ·) (hw l j)
theorem supp_hi (hw : ∀ (k : Fin 128) (j : Fin 32), w9 (ix2 k ⟨32 + j.val, by omega⟩) = x7 (ix2 k j)) (k : Fin 10000) (j : Fin 32) :
    k0_pay5 (F := Ideal) x0 w9 (ix2 k ⟨32 + j.val, by omega⟩) = val_main_v24 (F := Ideal) x0 x7 (ix2 k j) := by
  rw [pay5_apply, v24_at]
  exact Finset.sum_congr rfl fun l _ => congrArg (x0 (ix2 k l) * ·) (hw l j)

theorem s1F_eq (hw : ∀ (k : Fin 128) (j : Fin 32), w9 (ix2 k ⟨j.val, by omega⟩) = x2 (ix2 k j))
    (hb : ∀ j : Fin 32, b0 (ix2 (0 : Fin 1) j) = x4 (ix1 j)) (hg : ∀ j : Fin 32, g0 (ix2 (0 : Fin 1) j) = x5 (ix1 j))
    (hbe : ∀ j : Fin 32, be0 (ix2 (0 : Fin 1) j) = x6 (ix1 j)) (f4 : ∀ i, Fn (x4 i)) (f5 : ∀ i, Fn (x5 i)) (R : Fin 10000) (j : Fin 32) :
    s1F x1 x0 w9 x3 b0 g0 be0 R j = val_main_v22 (F := Ideal) x0 x1 x2 x3 x4 x5 x6 (ix2 R j) := by
  unfold s1F
  rw [v22_at, v7_at, v8_at, hb, hg, hbe]
  obtain ⟨b, e⟩ := f4 (ix1 j)
  obtain ⟨g, e'⟩ := f5 (ix1 j)
  rw [e, e', foldRelu_eq]
  exact congrArg (fun s => bnRelu (s + _) _ _ _) (Finset.sum_congr rfl fun k _ => congrArg (x1 (ix2 R k) * ·) (supp_lo x0 x2 w9 hw k j))
theorem aF_eq (hw : ∀ (k : Fin 128) (j : Fin 32), w9 (ix2 k ⟨32 + j.val, by omega⟩) = x7 (ix2 k j))
    (hb : ∀ j : Fin 32, b10 (ix2 (0 : Fin 1) j) = x9 (ix1 j)) (hg : ∀ j : Fin 32, g10 (ix2 (0 : Fin 1) j) = x10 (ix1 j))
    (hbe : ∀ j : Fin 32, be10 (ix2 (0 : Fin 1) j) = x11 (ix1 j)) (f9 : ∀ i, Fn (x9 i)) (f10 : ∀ i, Fn (x10 i)) (R : Fin 10000) (j : Fin 32) :
    aF x1 x0 w9 x8 b10 g10 be10 R j = val_main_v40 (F := Ideal) x0 x1 x7 x8 x9 x10 x11 (ix2 R j) := by
  unfold aF
  rw [v40_at, v25_at, v26_at, hb, hg, hbe]
  obtain ⟨b, e⟩ := f9 (ix1 j)
  obtain ⟨g, e'⟩ := f10 (ix1 j)
  rw [e, e', foldRelu_eq]
  exact congrArg (fun s => bnRelu (s + _) _ _ _) (Finset.sum_congr rfl fun k _ => congrArg (x1 (ix2 R k) * ·) (supp_hi x0 x7 w9 hw k j))

/-! ## The quantised adjacency and the second layer's product -/

theorem q_eq (R k : Fin 10000) : num4 (qF x1 R k) = val_main_v3 (F := Ideal) x1 (ix2 R k) := by
  rw [v3_at]
  exact quant _

/-- The two passes' shares of the product over the quantised adjacency make up the whole. -/
theorem shares (p : Fin 10000 → Fin 32 → EReal) (t : Fin 25) (r : Fin 400) (j : Fin 32) :
    (if t.val < 13 then ∑ l : Fin 10000, num4 (qF x1 (rowAt t r) l) * p l j
        else ∑ l : Fin 4880, num4 (qF x1 (rowAt t r) ⟨5120 + l.val, by omega⟩) * p ⟨5120 + l.val, by omega⟩ j) + tpF x1 p (rowAt t r) j
      = ∑ l : Fin 10000, num4 (qF x1 (rowAt t r) l) * p l j := by
  unfold tpF
  by_cases h : t.val < 13
  · have h' : (rowAt t r).val < 5200 := by show t.val * 400 + r.val < 5200; omega
    rw [if_pos h, if_pos h', add_zero]
  · have h' : ¬(rowAt t r).val < 5200 := by show ¬t.val * 400 + r.val < 5200; omega
    rw [if_neg h, if_neg h', add_comm]
    exact (Fin.sum_univ_add (a := 5120) (b := 4880) fun l : Fin 10000 => num4 (qF x1 (rowAt t r) l) * p l j).symm

/-- The reference divides the quantised adjacency by fifteen entry by entry; so may the sum be. -/
theorem fifteenth_out (R : Fin 10000) (j : Fin 32) :
    val_main_v42 (F := Ideal) x0 x1 x7 x8 x9 x10 x11 x12 (ix2 R j)
      = (∑ l : Fin 10000, num4 (qF x1 R l) * val_main_v41 (F := Ideal) x0 x1 x7 x8 x9 x10 x11 x12 (ix2 l j)) * ((1 / 15 : ℝ) : EReal) := by
  rw [v42_at, sum_mul_real _ _ _ (by norm_num)]
  refine Finset.sum_congr rfl fun l _ => ?_
  rw [v5_at, q_eq]
  exact mul_right_comm _ _ _

/-- The first activation of the second branch is finite. -/
theorem a_fin (f0 : ∀ i, Fn (x0 i)) (f1 : ∀ i, Fn (x1 i)) (f7 : ∀ i, Fn (x7 i)) (f8 : ∀ i, Fn (x8 i)) (f9 : ∀ i, Fn (x9 i)) (f10 : ∀ i, Fn (x10 i))
    (f11 : ∀ i, Fn (x11 i)) (R : Fin 10000) (j : Fin 32) : Fn (val_main_v40 (F := Ideal) x0 x1 x7 x8 x9 x10 x11 (ix2 R j)) := by
  rw [v40_at]
  refine Fn.bn (Fn.add ?_ ?_) (f9 _) (f10 _) (f11 _)
  · rw [v25_at]
    refine Fn.sum _ _ fun k => (f1 _).mul ?_
    rw [v24_at]
    exact Fn.sum _ _ fun l => (f0 _).mul (f7 _)
  · rw [v26_at]
    exact Fn.sum _ _ fun l => (f0 _).mul (f8 _)

/-! ## A row of the result -/

theorem last_eq (hw : ∀ (k : Fin 128) (j : Fin 32), w9 (ix2 k ⟨32 + j.val, by omega⟩) = x7 (ix2 k j))
    (hb : ∀ j : Fin 32, b10 (ix2 (0 : Fin 1) j) = x9 (ix1 j)) (hg : ∀ j : Fin 32, g10 (ix2 (0 : Fin 1) j) = x10 (ix1 j))
    (hbe : ∀ j : Fin 32, be10 (ix2 (0 : Fin 1) j) = x11 (ix1 j))
    (hb' : ∀ j : Fin 32, b11 (ix2 (0 : Fin 1) j) = x14 (ix1 j)) (hg' : ∀ j : Fin 32, g11 (ix2 (0 : Fin 1) j) = x15 (ix1 j))
    (hbe' : ∀ j : Fin 32, be11 (ix2 (0 : Fin 1) j) = x16 (ix1 j))
    (f0 : ∀ i, Fn (x0 i)) (f1 : ∀ i, Fn (x1 i)) (f7 : ∀ i, Fn (x7 i)) (f8 : ∀ i, Fn (x8 i)) (f9 : ∀ i, Fn (x9 i)) (f10 : ∀ i, Fn (x10 i))
    (f11 : ∀ i, Fn (x11 i)) (f13 : ∀ i, Fn (x13 i)) (f14 : ∀ i, Fn (x14 i)) (f15 : ∀ i, Fn (x15 i)) (t : Fin 25) (r : Fin 400) (k : Fin 32) :
    foldRelu2 ((if t.val < 13 then ∑ l : Fin 10000, num4 (qF x1 (rowAt t r) l) * pF x1 x0 w9 x8 b10 g10 be10 x12 l k
          else ∑ l : Fin 4880, num4 (qF x1 (rowAt t r) ⟨5120 + l.val, by omega⟩) * pF x1 x0 w9 x8 b10 g10 be10 x12 ⟨5120 + l.val, by omega⟩ k)
          + tpF x1 (pF x1 x0 w9 x8 b10 g10 be10 x12) (rowAt t r) k)
        (∑ l : Fin 32, aF x1 x0 w9 x8 b10 g10 be10 (rowAt t r) l * x13 (ix2 l k)) (b11 (ix2 (0 : Fin 1) k)) (g11 (ix2 (0 : Fin 1) k)) (be11 (ix2 (0 : Fin 1) k))
      = val_main_v57 (F := Ideal) x0 x1 x7 x8 x9 x10 x11 x12 x13 x14 x15 x16 (ix2 (rowAt t r) k) := by
  have ha : ∀ R l, aF x1 x0 w9 x8 b10 g10 be10 R l = val_main_v40 (F := Ideal) x0 x1 x7 x8 x9 x10 x11 (ix2 R l) :=
    aF_eq x0 x1 x7 x8 x9 x10 x11 w9 b10 g10 be10 hw hb hg hbe f9 f10
  have hp : ∀ R l, pF x1 x0 w9 x8 b10 g10 be10 x12 R l = val_main_v41 (F := Ideal) x0 x1 x7 x8 x9 x10 x11 x12 (ix2 R l) := fun R l => by
    unfold pF
    rw [v41_at]
    exact Finset.sum_congr rfl fun i _ => congrArg (· * _) (ha R i)
  have hs : (∑ l : Fin 32, aF x1 x0 w9 x8 b10 g10 be10 (rowAt t r) l * x13 (ix2 l k))
      = val_main_v43 (F := Ideal) x0 x1 x7 x8 x9 x10 x11 x13 (ix2 (rowAt t r) k) := by
    rw [v43_at]
    exact Finset.sum_congr rfl fun i _ => congrArg (· * _) (ha _ i)
  have hσ : Fn (val_main_v43 (F := Ideal) x0 x1 x7 x8 x9 x10 x11 x13 (ix2 (rowAt t r) k)) := by
    rw [v43_at]
    exact Fn.sum _ _ fun l => (a_fin x0 x1 x7 x8 x9 x10 x11 f0 f1 f7 f8 f9 f10 f11 _ l).mul (f13 _)
  rw [shares, hs, hb', hg', hbe', v57_at]
  obtain ⟨σ, eσ⟩ := hσ
  obtain ⟨b, eb⟩ := f14 (ix1 k)
  obtain ⟨g, eg⟩ := f15 (ix1 k)
  rw [eσ, eb, eg]
  refine foldRelu2_eq _ _ _ σ b g ((fifteenth_out x0 x1 x7 x8 x9 x10 x11 x12 _ _).trans (congrArg (· * _) ?_))
  exact Finset.sum_congr rfl fun l _ => congrArg (_ * ·) (hp l k).symm

/-- The two passes' row is the reference's. -/
theorem row_eq (hlo : ∀ (k : Fin 128) (j : Fin 32), w9 (ix2 k ⟨j.val, by omega⟩) = x2 (ix2 k j))
    (hhi : ∀ (k : Fin 128) (j : Fin 32), w9 (ix2 k ⟨32 + j.val, by omega⟩) = x7 (ix2 k j))
    (hb0 : ∀ j : Fin 32, b0 (ix2 (0 : Fin 1) j) = x4 (ix1 j)) (hg0 : ∀ j : Fin 32, g0 (ix2 (0 : Fin 1) j) = x5 (ix1 j))
    (hbe0 : ∀ j : Fin 32, be0 (ix2 (0 : Fin 1) j) = x6 (ix1 j))
    (hb : ∀ j : Fin 32, b10 (ix2 (0 : Fin 1) j) = x9 (ix1 j)) (hg : ∀ j : Fin 32, g10 (ix2 (0 : Fin 1) j) = x10 (ix1 j))
    (hbe : ∀ j : Fin 32, be10 (ix2 (0 : Fin 1) j) = x11 (ix1 j))
    (hb' : ∀ j : Fin 32, b11 (ix2 (0 : Fin 1) j) = x14 (ix1 j)) (hg' : ∀ j : Fin 32, g11 (ix2 (0 : Fin 1) j) = x15 (ix1 j))
    (hbe' : ∀ j : Fin 32, be11 (ix2 (0 : Fin 1) j) = x16 (ix1 j))
    (hwa : ∀ (k : Fin 128) (j : Fin 40), wa (ix2 k j) = x17 (ix2 ⟨k.val, by omega⟩ j))
    (hwb : ∀ (k : Fin 32) (j : Fin 40), wb (ix2 k j) = x17 (ix2 ⟨128 + k.val, by omega⟩ j))
    (hwc : ∀ (k : Fin 32) (j : Fin 40), wc (ix2 k j) = x17 (ix2 ⟨160 + k.val, by omega⟩ j))
    (hbc : ∀ j : Fin 40, bc (ix2 (0 : Fin 1) j) = x18 (ix1 j))
    (f0 : ∀ i, Fn (x0 i)) (f1 : ∀ i, Fn (x1 i)) (f4 : ∀ i, Fn (x4 i)) (f5 : ∀ i, Fn (x5 i)) (f7 : ∀ i, Fn (x7 i)) (f8 : ∀ i, Fn (x8 i)) (f9 : ∀ i, Fn (x9 i))
    (f10 : ∀ i, Fn (x10 i)) (f11 : ∀ i, Fn (x11 i)) (f13 : ∀ i, Fn (x13 i)) (f14 : ∀ i, Fn (x14 i)) (f15 : ∀ i, Fn (x15 i))
    (t : Fin 25) (r : Fin 400) (j : Fin 40) :
    outF (fun i => qF x1 (rowAt (i 0) (i 1)) (i 2)) (fun i => pF x1 x0 w9 x8 b10 g10 be10 x12 (i 0) (i 1)) (fun i => aF x1 x0 w9 x8 b10 g10 be10 (i 0) (i 1))
        (fun i => tpF x1 (pF x1 x0 w9 x8 b10 g10 be10 x12) (i 0) (i 1)) (fun i => accF x1 x0 w9 x3 b0 g0 be0 wa wb bc (i 0) (i 1)) x13 b11 g11 be11 wc t r j
      = val_main_v62 (F := Ideal) x0 x1 x2 x3 x4 x5 x6 x7 x8 x9 x10 x11 x12 x13 x14 x15 x16 x17 x18 (ix2 (rowAt t r) j) := by
  have hl := last_eq x0 x1 x7 x8 x9 x10 x11 x12 x13 x14 x15 x16 w9 b10 g10 be10 b11 g11 be11 hhi hb hg hbe hb' hg' hbe' f0 f1 f7 f8 f9 f10 f11 f13 f14 f15 t r
  have h1 := s1F_eq x0 x1 x2 x3 x4 x5 x6 w9 b0 g0 be0 hlo hb0 hg0 hbe0 f4 f5 (rowAt t r)
  have hacc : accF x1 x0 w9 x3 b0 g0 be0 wa wb bc (rowAt t r) j
      = ((∑ k : Fin 128, x0 (ix2 (rowAt t r) k) * x17 (ix2 (⟨k.val, by omega⟩ : Fin 192) j))
          + ∑ k : Fin 32, val_main_v22 (F := Ideal) x0 x1 x2 x3 x4 x5 x6 (ix2 (rowAt t r) k) * x17 (ix2 (⟨128 + k.val, by omega⟩ : Fin 192) j)) + x18 (ix1 j) := by
    unfold accF
    rw [hbc]
    exact congrArg (· + _) (congrArg₂ (· + ·) (Finset.sum_congr rfl fun k _ => congrArg (_ * ·) (hwa k j))
      (Finset.sum_congr rfl fun k _ => congrArg₂ (· * ·) (h1 k) (hwb k j)))
  rw [v62_at]
  refine Eq.trans (congrArg₂ (· + ·) hacc (Finset.sum_congr rfl fun k _ => congrArg₂ (· * ·) (hl k) (hwc k j))) ?_
  exact add_right_comm _ _ _

/-- The same with the kernel's own arrays given as equal to the reference's. -/
theorem row_eq_of {y0 : FVec Ideal S10000x128 .f32} {y1 : FVec Ideal S10000x10000 .f32} {y3 y8 : FVec Ideal S128x32 .f32} {y12 y13 : FVec Ideal S32x32 .f32}
    (e0 : y0 = x0) (e1 : y1 = x1) (e3 : y3 = x3) (e8 : y8 = x8) (e12 : y12 = x12) (e13 : y13 = x13)
    (hlo : ∀ (k : Fin 128) (j : Fin 32), w9 (ix2 k ⟨j.val, by omega⟩) = x2 (ix2 k j))
    (hhi : ∀ (k : Fin 128) (j : Fin 32), w9 (ix2 k ⟨32 + j.val, by omega⟩) = x7 (ix2 k j))
    (hb0 : ∀ j : Fin 32, b0 (ix2 (0 : Fin 1) j) = x4 (ix1 j)) (hg0 : ∀ j : Fin 32, g0 (ix2 (0 : Fin 1) j) = x5 (ix1 j))
    (hbe0 : ∀ j : Fin 32, be0 (ix2 (0 : Fin 1) j) = x6 (ix1 j))
    (hb : ∀ j : Fin 32, b10 (ix2 (0 : Fin 1) j) = x9 (ix1 j)) (hg : ∀ j : Fin 32, g10 (ix2 (0 : Fin 1) j) = x10 (ix1 j))
    (hbe : ∀ j : Fin 32, be10 (ix2 (0 : Fin 1) j) = x11 (ix1 j))
    (hb' : ∀ j : Fin 32, b11 (ix2 (0 : Fin 1) j) = x14 (ix1 j)) (hg' : ∀ j : Fin 32, g11 (ix2 (0 : Fin 1) j) = x15 (ix1 j))
    (hbe' : ∀ j : Fin 32, be11 (ix2 (0 : Fin 1) j) = x16 (ix1 j))
    (hwa : ∀ (k : Fin 128) (j : Fin 40), wa (ix2 k j) = x17 (ix2 ⟨k.val, by omega⟩ j))
    (hwb : ∀ (k : Fin 32) (j : Fin 40), wb (ix2 k j) = x17 (ix2 ⟨128 + k.val, by omega⟩ j))
    (hwc : ∀ (k : Fin 32) (j : Fin 40), wc (ix2 k j) = x17 (ix2 ⟨160 + k.val, by omega⟩ j))
    (hbc : ∀ j : Fin 40, bc (ix2 (0 : Fin 1) j) = x18 (ix1 j))
    (f0 : ∀ i, Fn (x0 i)) (f1 : ∀ i, Fn (x1 i)) (f4 : ∀ i, Fn (x4 i)) (f5 : ∀ i, Fn (x5 i)) (f7 : ∀ i, Fn (x7 i)) (f8 : ∀ i, Fn (x8 i)) (f9 : ∀ i, Fn (x9 i))
    (f10 : ∀ i, Fn (x10 i)) (f11 : ∀ i, Fn (x11 i)) (f13 : ∀ i, Fn (x13 i)) (f14 : ∀ i, Fn (x14 i)) (f15 : ∀ i, Fn (x15 i))
    (t : Fin 25) (r : Fin 400) (j : Fin 40) :
    outF (fun i => qF y1 (rowAt (i 0) (i 1)) (i 2)) (fun i => pF y1 y0 w9 y8 b10 g10 be10 y12 (i 0) (i 1)) (fun i => aF y1 y0 w9 y8 b10 g10 be10 (i 0) (i 1))
        (fun i => tpF y1 (pF y1 y0 w9 y8 b10 g10 be10 y12) (i 0) (i 1)) (fun i => accF y1 y0 w9 y3 b0 g0 be0 wa wb bc (i 0) (i 1)) y13 b11 g11 be11 wc t r j
      = val_main_v62 (F := Ideal) x0 x1 x2 x3 x4 x5 x6 x7 x8 x9 x10 x11 x12 x13 x14 x15 x16 x17 x18 (ix2 (rowAt t r) j) := by
  subst e0 e1 e3 e8 e12 e13
  exact row_eq y0 y1 x2 y3 x4 x5 x6 x7 y8 x9 x10 x11 y12 y13 x14 x15 x16 x17 x18 w9 b0 g0 be0 b10 g10 be10 b11 g11 be11 wa wb wc bc
    hlo hhi hb0 hg0 hbe0 hb hg hbe hb' hg' hbe' hwa hwb hwc hbc f0 f1 f4 f5 f7 f8 f9 f10 f11 f13 f14 f15 t r j

end Cert.Proof.Compare

end
-- ==== Proof.Host.lean ====
/-
  What the host has made of the parameters when the first pass starts: the vectors as rows, the two first-layer weights
  joined side by side, the classifier's weight cut into three.
-/
module

public import proofs.«01_k».proof.Proof.Run
public import proofs.«01_k».proof.Proof.Pay

@[expose] public section

set_option maxRecDepth 16384

noncomputable section

namespace Cert.Proof.Passes

open Cert.KernelIdeal Cert.KernelIdeal.Gen
open Idealize.ShloMosaic hiding ix1 ix2 ix3 eq_ix2
open Idealize.ShloMosaic.ValueIdx Idealize.ShloMosaic.TcCoe Idealize.ShloMosaic.Tactic

/-- A vector as a row. -/
theorem row32 (x : FVec Ideal S32 .f32) (j : Fin 32) : shapeCast S1x32 x shapeCasts_S32_S1x32 (ix2 (0 : Fin 1) j) = x (ix1 j) :=
  shapeCast_apply x _ _ (ix1 j) (by rw [Shape.rowMajor_val_one, Shape.rowMajor_val_two]; exact (Nat.zero_add _).symm)

/-- The classifier's bias as a row. -/
theorem row40 (x : FVec Ideal S40 .f32) (j : Fin 40) : shapeCast S1x40 x shapeCasts_S40_S1x40 (ix2 (0 : Fin 1) j) = x (ix1 j) :=
  shapeCast_apply x _ _ (ix1 j) (by rw [Shape.rowMajor_val_one, Shape.rowMajor_val_two]; exact (Nat.zero_add _).symm)

variable (m : (ℓ : Loc nD τ sig) → Buf (Elt Ideal) ℓ) (c : Dev nD)

theorem host_arg0 : Va m c main_arg0 = m ((c : Thread nD τ).loc main_arg0) := V1_of m c _ (by decide)
theorem host_arg1 : Va m c main_arg1 = m ((c : Thread nD τ).loc main_arg1) := V1_of m c _ (by decide)
theorem host_arg3 : Va m c main_arg3 = m ((c : Thread nD τ).loc main_arg3) := V1_of m c _ (by decide)
theorem host_arg8 : Va m c main_arg8 = m ((c : Thread nD τ).loc main_arg8) := V1_of m c _ (by decide)
theorem host_arg12 : Va m c main_arg12 = m ((c : Thread nD τ).loc main_arg12) := V1_of m c _ (by decide)
theorem host_arg13 : Va m c main_arg13 = m ((c : Thread nD τ).loc main_arg13) := V1_of m c _ (by decide)

theorem host_v0 (j : Fin 32) : (Va m c main_v0 : FVec Ideal S1x32 .f32) (ix2 (0 : Fin 1) j) = (m ((c : Thread nD τ).loc main_arg4) : FVec Ideal S32 .f32) (ix1 j) := by
  unfold Va V1
  entry_read
  exact row32 _ j
theorem host_v1 (j : Fin 32) : (Va m c main_v1 : FVec Ideal S1x32 .f32) (ix2 (0 : Fin 1) j) = (m ((c : Thread nD τ).loc main_arg5) : FVec Ideal S32 .f32) (ix1 j) := by
  unfold Va V1
  entry_read
  exact row32 _ j
theorem host_v2 (j : Fin 32) : (Va m c main_v2 : FVec Ideal S1x32 .f32) (ix2 (0 : Fin 1) j) = (m ((c : Thread nD τ).loc main_arg6) : FVec Ideal S32 .f32) (ix1 j) := by
  unfold Va V1
  entry_read
  exact row32 _ j
theorem host_v3 (j : Fin 32) : (Va m c main_v3 : FVec Ideal S1x32 .f32) (ix2 (0 : Fin 1) j) = (m ((c : Thread nD τ).loc main_arg9) : FVec Ideal S32 .f32) (ix1 j) := by
  unfold Va V1
  entry_read
  exact row32 _ j
theorem host_v4 (j : Fin 32) : (Va m c main_v4 : FVec Ideal S1x32 .f32) (ix2 (0 : Fin 1) j) = (m ((c : Thread nD τ).loc main_arg10) : FVec Ideal S32 .f32) (ix1 j) := by
  unfold Va V1
  entry_read
  exact row32 _ j
theorem host_v5 (j : Fin 32) : (Va m c main_v5 : FVec Ideal S1x32 .f32) (ix2 (0 : Fin 1) j) = (m ((c : Thread nD τ).loc main_arg11) : FVec Ideal S32 .f32) (ix1 j) := by
  unfold Va V1
  entry_read
  exact row32 _ j
theorem host_v6 (j : Fin 32) : (Va m c main_v6 : FVec Ideal S1x32 .f32) (ix2 (0 : Fin 1) j) = (m ((c : Thread nD τ).loc main_arg14) : FVec Ideal S32 .f32) (ix1 j) := by
  unfold Va V1
  entry_read
  exact row32 _ j
theorem host_v7 (j : Fin 32) : (Va m c main_v7 : FVec Ideal S1x32 .f32) (ix2 (0 : Fin 1) j) = (m ((c : Thread nD τ).loc main_arg15) : FVec Ideal S32 .f32) (ix1 j) := by
  unfold Va V1
  entry_read
  exact row32 _ j
theorem host_v8 (j : Fin 32) : (Va m c main_v8 : FVec Ideal S1x32 .f32) (ix2 (0 : Fin 1) j) = (m ((c : Thread nD τ).loc main_arg16) : FVec Ideal S32 .f32) (ix1 j) := by
  unfold Va V1
  entry_read
  exact row32 _ j
theorem host_v13 (j : Fin 40) : (Va m c main_v13 : FVec Ideal S1x40 .f32) (ix2 (0 : Fin 1) j) = (m ((c : Thread nD τ).loc main_arg18) : FVec Ideal S40 .f32) (ix1 j) := by
  unfold Va V1
  entry_read
  exact row40 _ j
theorem host_v10 (k : Fin 128) (j : Fin 40) :
    (Va m c main_v10 : FVec Ideal S128x40 .f32) (ix2 k j) = (m ((c : Thread nD τ).loc main_arg17) : FVec Ideal S192x40 .f32) (ix2 (⟨k.val, by omega⟩ : Fin 192) j) := by
  unfold Va V1
  entry_read
  exact extractStridedSlice_apply _ _ _ _ _ fun a => match a with | ⟨0, _⟩ => (Nat.zero_add _).symm | ⟨1, _⟩ => (Nat.zero_add _).symm
theorem host_v11 (k : Fin 32) (j : Fin 40) :
    (Va m c main_v11 : FVec Ideal S32x40 .f32) (ix2 k j) = (m ((c : Thread nD τ).loc main_arg17) : FVec Ideal S192x40 .f32) (ix2 (⟨128 + k.val, by omega⟩ : Fin 192) j) := by
  unfold Va V1
  entry_read
  exact extractStridedSlice_apply _ _ _ _ _ fun a => match a with | ⟨0, _⟩ => rfl | ⟨1, _⟩ => (Nat.zero_add _).symm
theorem host_v12 (k : Fin 32) (j : Fin 40) :
    (Va m c main_v12 : FVec Ideal S32x40 .f32) (ix2 k j) = (m ((c : Thread nD τ).loc main_arg17) : FVec Ideal S192x40 .f32) (ix2 (⟨160 + k.val, by omega⟩ : Fin 192) j) := by
  unfold Va V1
  entry_read
  exact extractStridedSlice_apply _ _ _ _ _ fun a => match a with | ⟨0, _⟩ => rfl | ⟨1, _⟩ => (Nat.zero_add _).symm
theorem host_v9_lo (k : Fin 128) (j : Fin 32) :
    (Va m c main_v9 : FVec Ideal S128x64 .f32) (ix2 k (⟨j.val, by omega⟩ : Fin 64)) = (m ((c : Thread nD τ).loc main_arg2) : FVec Ideal S128x32 .f32) (ix2 k j) := by
  unfold Va V1
  entry_read
  exact concatenate_pair_apply_left (s₁ := S128x32) (s₂ := S128x32) 1 _ _ _ (ix2 k (⟨j.val, by omega⟩ : Fin 64)) (by rfl) (ix2 k j) (fun b => by match b with | ⟨0, _⟩ => rfl | ⟨1, _⟩ => rfl)
theorem host_v9_hi (k : Fin 128) (j : Fin 32) :
    (Va m c main_v9 : FVec Ideal S128x64 .f32) (ix2 k (⟨32 + j.val, by omega⟩ : Fin 64)) = (m ((c : Thread nD τ).loc main_arg7) : FVec Ideal S128x32 .f32) (ix2 k j) := by
  unfold Va V1
  entry_read
  exact concatenate_pair_apply_right (s₁ := S128x32) (s₂ := S128x32) 1 _ _ _ (ix2 k (⟨32 + j.val, by omega⟩ : Fin 64)) (by rfl) (by rfl) (ix2 k j)
    (fun b hb => by match b with | ⟨0, _⟩ => rfl | ⟨1, _⟩ => exact absurd rfl hb) (Nat.add_comm _ _)

end Cert.Proof.Passes

end
-- ==== Proof.Finite.lean ====
/-
  What the precondition says: the entries of twelve of the arguments are finite numbers.
-/
module

public import proofs.«01_k».proof.Defs
public import proofs.«01_k».proof.Proof.Gen.Pre_finite
public import proofs.«01_k».proof.Proof.Math

@[expose] public section

set_option maxRecDepth 16384

noncomputable section

namespace Cert.Proof

open Idealize.ShloMosaic Idealize.ShloMosaic.TcCoe

/-- An array whose comparison with infinity is all ones holds finite numbers. -/
theorem finite_of {s : Shape} (x : FVec Ideal s .f32) (h : Cert.Pre_finite.S_.BroadcastsInDim s (![] : Fin 0 → Fin s.rank))
    (e : cmpf .olt (Host.absf x) (broadcastInDim s ![] h (constant (F := Ideal) Cert.Pre_finite.S_ .f32 0x7F800000#32)) = fun _ => 1#1) (i : s.Idx) : Fn (x i) := by
  have e' := congrFun e i
  refine Fn.of_lt ?_
  rw [← Passes.inf_bits]
  exact e'

variable (m : (ℓ : Loc Cert.KernelIdeal.nD Cert.KernelIdeal.τ Cert.KernelIdeal.sig) → Buf (Elt Ideal) ℓ)
  (h : Cert.Pre_KernelIdeal_finite (hPre_finite := Cert.Pre_finite.Gen.facts) m) (c : Dev Cert.KernelIdeal.nD)
include h

theorem fin_x0 : ∀ i, Fn ((m ((c.tc : Thread Cert.KernelIdeal.nD Cert.KernelIdeal.τ).loc Cert.KernelIdeal.main_arg0) : FVec Ideal _ .f32) i) :=
  finite_of _ _ (h c).1

theorem fin_adj : ∀ i, Fn ((m ((c.tc : Thread Cert.KernelIdeal.nD Cert.KernelIdeal.τ).loc Cert.KernelIdeal.main_arg1) : FVec Ideal _ .f32) i) :=
  finite_of _ _ (h c).2.1

theorem fin_b0 : ∀ i, Fn ((m ((c.tc : Thread Cert.KernelIdeal.nD Cert.KernelIdeal.τ).loc Cert.KernelIdeal.main_arg4) : FVec Ideal _ .f32) i) :=
  finite_of _ _ (h c).2.2.1

theorem fin_g0 : ∀ i, Fn ((m ((c.tc : Thread Cert.KernelIdeal.nD Cert.KernelIdeal.τ).loc Cert.KernelIdeal.main_arg5) : FVec Ideal _ .f32) i) :=
  finite_of _ _ (h c).2.2.2.1

theorem fin_W10 : ∀ i, Fn ((m ((c.tc : Thread Cert.KernelIdeal.nD Cert.KernelIdeal.τ).loc Cert.KernelIdeal.main_arg7) : FVec Ideal _ .f32) i) :=
  finite_of _ _ (h c).2.2.2.2.1

theorem fin_S10 : ∀ i, Fn ((m ((c.tc : Thread Cert.KernelIdeal.nD Cert.KernelIdeal.τ).loc Cert.KernelIdeal.main_arg8) : FVec Ideal _ .f32) i) :=
  finite_of _ _ (h c).2.2.2.2.2.1

theorem fin_b10 : ∀ i, Fn ((m ((c.tc : Thread Cert.KernelIdeal.nD Cert.KernelIdeal.τ).loc Cert.KernelIdeal.main_arg9) : FVec Ideal _ .f32) i) :=
  finite_of _ _ (h c).2.2.2.2.2.2.1

theorem fin_g10 : ∀ i, Fn ((m ((c.tc : Thread Cert.KernelIdeal.nD Cert.KernelIdeal.τ).loc Cert.KernelIdeal.main_arg10) : FVec Ideal _ .f32) i) :=
  finite_of _ _ (h c).2.2.2.2.2.2.2.1

theorem fin_be10 : ∀ i, Fn ((m ((c.tc : Thread Cert.KernelIdeal.nD Cert.KernelIdeal.τ).loc Cert.KernelIdeal.main_arg11) : FVec Ideal _ .f32) i) :=
  finite_of _ _ (h c).2.2.2.2.2.2.2.2.1

theorem fin_S11 : ∀ i, Fn ((m ((c.tc : Thread Cert.KernelIdeal.nD Cert.KernelIdeal.τ).loc Cert.KernelIdeal.main_arg13) : FVec Ideal _ .f32) i) :=
  finite_of _ _ (h c).2.2.2.2.2.2.2.2.2.1

theorem fin_b11 : ∀ i, Fn ((m ((c.tc : Thread Cert.KernelIdeal.nD Cert.KernelIdeal.τ).loc Cert.KernelIdeal.main_arg14) : FVec Ideal _ .f32) i) :=
  finite_of _ _ (h c).2.2.2.2.2.2.2.2.2.2.1

theorem fin_g11 : ∀ i, Fn ((m ((c.tc : Thread Cert.KernelIdeal.nD Cert.KernelIdeal.τ).loc Cert.KernelIdeal.main_arg15) : FVec Ideal _ .f32) i) :=
  finite_of _ _ (h c).2.2.2.2.2.2.2.2.2.2.2

end Cert.Proof

end
-- ==== Proof.Algebraic.lean ====
/-
  The kernel's result over the extended reals is the reference's, from memories agreeing on the arguments and finite where
  the claim asks it.
-/
module

public import proofs.«01_k».proof.Proof.Compare
public import proofs.«01_k».proof.Proof.Host
public import proofs.«01_k».proof.Proof.Finite
public import proofs.«01_k».proof.Proof.RefRun

@[expose] public section

set_option maxRecDepth 16384

noncomputable section

namespace Cert.Proof

open Cert.KernelIdeal Cert.KernelIdeal.Gen
open Cert.Proof.Passes Cert.Proof.Compare
open Cert.ReferenceIdeal.Read (val_main_v62)
open Idealize.ShloMosaic hiding ix1 ix2 ix3 eq_ix2
open Idealize.ShloMosaic.ValueIdx Idealize.ShloMosaic.TcCoe
open Idealize.SL.Sem

variable (m : (ℓ : Loc nD τ sig) → Buf (Elt Ideal) ℓ)

set_option maxHeartbeats 4000000 in
/-- The second pass's result, of what the first pass leaves and the host prepared. -/
theorem out_eq (h : Pre_KernelIdeal_finite m) (c : Dev nD) :
    (dat1 (Vb m) c).arrAt 10 cfg1.N
      = val_main_v62 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (m ((c : Thread nD τ).loc main_arg15))
      (m ((c : Thread nD τ).loc main_arg16)) (m ((c : Thread nD τ).loc main_arg17)) (m ((c : Thread nD τ).loc main_arg18)) := by
  refine arr1_10 (Vb m) c _ fun t r j => ?_
  rw [Vb_0, Vb_1, Vb_2, Vb_3, Vb_4, arr15, arr16, arr17, arr18, arr19,
    Vb_of m c main_arg13 (by decide), Vb_of m c main_v6 (by decide), Vb_of m c main_v7 (by decide), Vb_of m c main_v8 (by decide), Vb_of m c main_v12 (by decide)]
  exact row_eq_of (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (m ((c : Thread nD τ).loc main_arg15))
      (m ((c : Thread nD τ).loc main_arg16)) (m ((c : Thread nD τ).loc main_arg17)) (m ((c : Thread nD τ).loc main_arg18))
    (Va m c main_v9) (Va m c main_v0) (Va m c main_v1) (Va m c main_v2) (Va m c main_v3) (Va m c main_v4) (Va m c main_v5) (Va m c main_v6) (Va m c main_v7) (Va m c main_v8)
    (Va m c main_v10) (Va m c main_v11) (Va m c main_v12) (Va m c main_v13)
    (host_arg0 m c) (host_arg1 m c) (host_arg3 m c) (host_arg8 m c) (host_arg12 m c) (host_arg13 m c)
    (host_v9_lo m c) (host_v9_hi m c) (host_v0 m c) (host_v1 m c) (host_v2 m c) (host_v3 m c) (host_v4 m c) (host_v5 m c) (host_v6 m c) (host_v7 m c) (host_v8 m c)
    (host_v10 m c) (host_v11 m c) (host_v12 m c) (host_v13 m c)
    (fin_x0 m h c) (fin_adj m h c) (fin_b0 m h c) (fin_g0 m h c) (fin_W10 m h c) (fin_S10 m h c) (fin_b10 m h c) (fin_g10 m h c) (fin_be10 m h c)
    (fin_S11 m h c) (fin_b11 m h c) (fin_g11 m h c) t r j

/-- Equal arguments give the reference's result equally. -/
theorem same {x0 y0 : FVec Ideal S10000x128 .f32} (h0 : x0 = y0)
    {x1 y1 : FVec Ideal S10000x10000 .f32} (h1 : x1 = y1)
    {x2 y2 : FVec Ideal S128x32 .f32} (h2 : x2 = y2)
    {x3 y3 : FVec Ideal S128x32 .f32} (h3 : x3 = y3)
    {x4 y4 : FVec Ideal S32 .f32} (h4 : x4 = y4)
    {x5 y5 : FVec Ideal S32 .f32} (h5 : x5 = y5)
    {x6 y6 : FVec Ideal S32 .f32} (h6 : x6 = y6)
    {x7 y7 : FVec Ideal S128x32 .f32} (h7 : x7 = y7)
    {x8 y8 : FVec Ideal S128x32 .f32} (h8 : x8 = y8)
    {x9 y9 : FVec Ideal S32 .f32} (h9 : x9 = y9)
    {x10 y10 : FVec Ideal S32 .f32} (h10 : x10 = y10)
    {x11 y11 : FVec Ideal S32 .f32} (h11 : x11 = y11)
    {x12 y12 : FVec Ideal S32x32 .f32} (h12 : x12 = y12)
    {x13 y13 : FVec Ideal S32x32 .f32} (h13 : x13 = y13)
    {x14 y14 : FVec Ideal S32 .f32} (h14 : x14 = y14)
    {x15 y15 : FVec Ideal S32 .f32} (h15 : x15 = y15)
    {x16 y16 : FVec Ideal S32 .f32} (h16 : x16 = y16)
    {x17 y17 : FVec Ideal S192x40 .f32} (h17 : x17 = y17)
    {x18 y18 : FVec Ideal S40 .f32} (h18 : x18 = y18) :
    val_main_v62 (F := Ideal) x0 x1 x2 x3 x4 x5 x6 x7 x8 x9 x10 x11 x12 x13 x14 x15 x16 x17 x18 = val_main_v62 (F := Ideal) y0 y1 y2 y3 y4 y5 y6 y7 y8 y9 y10 y11 y12 y13 y14 y15 y16 y17 y18 := by
  subst h0 h1 h2 h3 h4 h5 h6 h7 h8 h9 h10 h11 h12 h13 h14 h15 h16 h17 h18
  rfl

theorem algebraic : algebraic_KernelIdeal_ReferenceIdeal_pre_finite := by
  intro m g m' g' h hm
  refine ⟨fun c => (dat1 (Vb m) c).arrAt 10 cfg1.N, (θ_run _ _ _).mono (fun r hr => hr.1) (run_main m g), ?_⟩
  refine (θ_run _ _ _).mono (fun r hr c => ⟨(hr c).1.trans ?_, (hr c).2⟩) (Cert.ReferenceIdeal.Value.run m' g')
  obtain ⟨h0, h1, h2, h3, h4, h5, h6, h7, h8, h9, h10, h11, h12, h13, h14, h15, h16, h17, h18⟩ := hm c
  exact (Cert.ReferenceIdeal.Read.val_main_v62_eq m' c).trans ((same h0 h1 h2 h3 h4 h5 h6 h7 h8 h9 h10 h11 h12 h13 h14 h15 h16 h17 h18).trans (out_eq m h c).symm)

end Cert.Proof

end
-- ==== Proof.lean ====
/-
  The claim assembled: the kernel's frame at its bits and at the extended reals, the reference's frame, the named
  constants, and the equality of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Frames
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    frame_kernel, frame_kernelIdeal, fun m g _ => frame_kernelIdeal m g trivial, frame_reference, fun m g _ => frame_reference m g trivial,
    ⟨IdealRules.named_const.statement Cert.KernelIdeal.κ "bn_scale" .f32 0x3F7FFFAC#32 _ rfl,
      IdealRules.named_const.statement Cert.KernelIdeal.κ "step" .f32 0x3D888889#32 _ rfl⟩,
    algebraic⟩

end Cert.Proof

end
